-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S4x256x128 : Shape := ⟨3, ![4, 256, 128]⟩
abbrev S4x128x128 : Shape := ⟨3, ![4, 128, 128]⟩
abbrev S16 : Shape := ⟨1, ![16]⟩
abbrev S_ : Shape := ⟨0, ![]⟩
abbrev S1 : Shape := ⟨1, ![1]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S4x256x128, .f32⟩
  | .local _ .vmem, ⟨3, _⟩ => ⟨S4x128x128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_off1 (d0 : Dev nD) : Fin 2 → Nat :=
  let c256_i32_22 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v10 : BitVec 1 := Scalar.cmpi .eq v2 c0_i32_6
  let c3_i32_7 : BitVec 32 := 3#32
  let v11 : BitVec 1 := Scalar.cmpi .eq v2 c3_i32_7
  let v12 : BitVec 1 := Scalar.ori v10 v11
  let c0_i32_8 : BitVec 32 := 0#32
  let c256_i32 : BitVec 32 := 256#32
  let v13 : BitVec 32 := Scalar.select v12 c0_i32_8 c256_i32
  let v30 : BitVec 32 := Scalar.subi c256_i32_22 v13
  let c0_i32_30 : BitVec 32 := 0#32
  ![v30.toNat, 0]
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_26 : BitVec 32 := 1#32
  let v31 : BitVec 32 := Scalar.muli v3 c1_i32_26
  let v32 : BitVec 32 := Scalar.addi c0_i32_27 v31
  v32.toNat
def k0_off2 (d0 : Dev nD) : Fin 2 → Nat :=
  let c256_i32_31 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_9 : BitVec 32 := 2#32
  let v14 : BitVec 1 := Scalar.cmpi .slt v2 c2_i32_9
  let c0_i32_10 : BitVec 32 := 0#32
  let c256_i32_11 : BitVec 32 := 256#32
  let v15 : BitVec 32 := Scalar.select v14 c0_i32_10 c256_i32_11
  let v40 : BitVec 32 := Scalar.subi c256_i32_31 v15
  let c256_i32_39 : BitVec 32 := 256#32
  ![v40.toNat, 256]
def k0_dev4 (d0 : Dev nD) : Nat :=
  let c0_i32_36 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_35 : BitVec 32 := 1#32
  let v41 : BitVec 32 := Scalar.muli v4 c1_i32_35
  let v42 : BitVec 32 := Scalar.addi c0_i32_36 v41
  v42.toNat
def k0_off3 (d0 : Dev nD) : Fin 2 → Nat :=
  let c256_i32_40 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v10 : BitVec 1 := Scalar.cmpi .eq v2 c0_i32_6
  let c3_i32_7 : BitVec 32 := 3#32
  let v11 : BitVec 1 := Scalar.cmpi .eq v2 c3_i32_7
  let v12 : BitVec 1 := Scalar.ori v10 v11
  let c0_i32_8 : BitVec 32 := 0#32
  let c256_i32 : BitVec 32 := 256#32
  let v13 : BitVec 32 := Scalar.select v12 c0_i32_8 c256_i32
  let v50 : BitVec 32 := Scalar.subi c256_i32_40 v13
  let c128_i32_48 : BitVec 32 := 128#32
  ![v50.toNat, 128]
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_44 : BitVec 32 := 1#32
  let v51 : BitVec 32 := Scalar.muli v3 c1_i32_44
  let v52 : BitVec 32 := Scalar.addi c0_i32_45 v51
  v52.toNat
def k0_off4 (d0 : Dev nD) : Fin 2 → Nat :=
  let c256_i32_49 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_9 : BitVec 32 := 2#32
  let v14 : BitVec 1 := Scalar.cmpi .slt v2 c2_i32_9
  let c0_i32_10 : BitVec 32 := 0#32
  let c256_i32_11 : BitVec 32 := 256#32
  let v15 : BitVec 32 := Scalar.select v14 c0_i32_10 c256_i32_11
  let v60 : BitVec 32 := Scalar.subi c256_i32_49 v15
  let c384_i32 : BitVec 32 := 384#32
  ![v60.toNat, 384]
def k0_dev6 (d0 : Dev nD) : Nat :=
  let c0_i32_54 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_53 : BitVec 32 := 1#32
  let v61 : BitVec 32 := Scalar.muli v4 c1_i32_53
  let v62 : BitVec 32 := Scalar.addi c0_i32_54 v61
  v62.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v10 : BitVec 1 := Scalar.cmpi .eq v2 c0_i32_6
  let c3_i32_7 : BitVec 32 := 3#32
  let v11 : BitVec 1 := Scalar.cmpi .eq v2 c3_i32_7
  let v12 : BitVec 1 := Scalar.ori v10 v11
  let c0_i32_8 : BitVec 32 := 0#32
  let c256_i32 : BitVec 32 := 256#32
  let v13 : BitVec 32 := Scalar.select v12 c0_i32_8 c256_i32
  let v77 : Index := Scalar.indexCast v13
  let c0 : Index := 0#32
  ![v77.toNat, 0]
def k0_off6 (d0 : Dev nD) : Fin 2 → Nat :=
  let c2_i32_18 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v10 : BitVec 1 := Scalar.cmpi .eq v2 c0_i32_6
  let c3_i32_7 : BitVec 32 := 3#32
  let v11 : BitVec 1 := Scalar.cmpi .eq v2 c3_i32_7
  let v12 : BitVec 1 := Scalar.ori v10 v11
  let c0_i32_8 : BitVec 32 := 0#32
  let c256_i32 : BitVec 32 := 256#32
  let v13 : BitVec 32 := Scalar.select v12 c0_i32_8 c256_i32
  let v24 : BitVec 32 := Scalar.muli c2_i32_18 v13
  let c128_i32_19 : BitVec 32 := 128#32
  let v25 : BitVec 32 := Scalar.addi v24 c128_i32_19
  let c2_i32_12 : BitVec 32 := 2#32
  let v16 : BitVec 1 := Scalar.cmpi .sge v2 c2_i32_12
  let c128_i32 : BitVec 32 := 128#32
  let c0_i32_13 : BitVec 32 := 0#32
  let v17 : BitVec 32 := Scalar.select v16 c128_i32 c0_i32_13
  let v18 : BitVec 32 := Scalar.addi v13 v17
  let v26 : BitVec 32 := Scalar.subi v25 v18
  let c0_i32_76 : BitVec 32 := 0#32
  ![v26.toNat, 0]
def k0_dev7 (d0 : Dev nD) : Nat :=
  let c0_i32_73 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_72 : BitVec 32 := 1#32
  let v85 : BitVec 32 := Scalar.muli v4 c1_i32_72
  let v86 : BitVec 32 := Scalar.addi c0_i32_73 v85
  v86.toNat
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_9 : BitVec 32 := 2#32
  let v14 : BitVec 1 := Scalar.cmpi .slt v2 c2_i32_9
  let c0_i32_10 : BitVec 32 := 0#32
  let c256_i32_11 : BitVec 32 := 256#32
  let v15 : BitVec 32 := Scalar.select v14 c0_i32_10 c256_i32_11
  let v101 : Index := Scalar.indexCast v15
  let c256 : Index := 256#32
  ![v101.toNat, 256]
def k0_off8 (d0 : Dev nD) : Fin 2 → Nat :=
  let c2_i32_20 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_9 : BitVec 32 := 2#32
  let v14 : BitVec 1 := Scalar.cmpi .slt v2 c2_i32_9
  let c0_i32_10 : BitVec 32 := 0#32
  let c256_i32_11 : BitVec 32 := 256#32
  let v15 : BitVec 32 := Scalar.select v14 c0_i32_10 c256_i32_11
  let v27 : BitVec 32 := Scalar.muli c2_i32_20 v15
  let c128_i32_21 : BitVec 32 := 128#32
  let v28 : BitVec 32 := Scalar.addi v27 c128_i32_21
  let c1_i32_14 : BitVec 32 := 1#32
  let v19 : BitVec 1 := Scalar.cmpi .eq v2 c1_i32_14
  let c3_i32_15 : BitVec 32 := 3#32
  let v20 : BitVec 1 := Scalar.cmpi .eq v2 c3_i32_15
  let v21 : BitVec 1 := Scalar.ori v19 v20
  let c128_i32_16 : BitVec 32 := 128#32
  let c0_i32_17 : BitVec 32 := 0#32
  let v22 : BitVec 32 := Scalar.select v21 c128_i32_16 c0_i32_17
  let v23 : BitVec 32 := Scalar.addi v15 v22
  let v29 : BitVec 32 := Scalar.subi v28 v23
  let c256_i32_94 : BitVec 32 := 256#32
  ![v29.toNat, 256]
def k0_dev8 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_90 : BitVec 32 := 1#32
  let v109 : BitVec 32 := Scalar.muli v3 c1_i32_90
  let v110 : BitVec 32 := Scalar.addi c0_i32_91 v109
  v110.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v10 : BitVec 1 := Scalar.cmpi .eq v2 c0_i32_6
  let c3_i32_7 : BitVec 32 := 3#32
  let v11 : BitVec 1 := Scalar.cmpi .eq v2 c3_i32_7
  let v12 : BitVec 1 := Scalar.ori v10 v11
  let c0_i32_8 : BitVec 32 := 0#32
  let c256_i32 : BitVec 32 := 256#32
  let v13 : BitVec 32 := Scalar.select v12 c0_i32_8 c256_i32
  let v125 : Index := Scalar.indexCast v13
  let c128 : Index := 128#32
  ![v125.toNat, 128]
def k0_off10 (d0 : Dev nD) : Fin 2 → Nat :=
  let c2_i32_18 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v10 : BitVec 1 := Scalar.cmpi .eq v2 c0_i32_6
  let c3_i32_7 : BitVec 32 := 3#32
  let v11 : BitVec 1 := Scalar.cmpi .eq v2 c3_i32_7
  let v12 : BitVec 1 := Scalar.ori v10 v11
  let c0_i32_8 : BitVec 32 := 0#32
  let c256_i32 : BitVec 32 := 256#32
  let v13 : BitVec 32 := Scalar.select v12 c0_i32_8 c256_i32
  let v24 : BitVec 32 := Scalar.muli c2_i32_18 v13
  let c128_i32_19 : BitVec 32 := 128#32
  let v25 : BitVec 32 := Scalar.addi v24 c128_i32_19
  let c2_i32_12 : BitVec 32 := 2#32
  let v16 : BitVec 1 := Scalar.cmpi .sge v2 c2_i32_12
  let c128_i32 : BitVec 32 := 128#32
  let c0_i32_13 : BitVec 32 := 0#32
  let v17 : BitVec 32 := Scalar.select v16 c128_i32 c0_i32_13
  let v18 : BitVec 32 := Scalar.addi v13 v17
  let v26 : BitVec 32 := Scalar.subi v25 v18
  let c128_i32_112 : BitVec 32 := 128#32
  ![v26.toNat, 128]
def k0_dev9 (d0 : Dev nD) : Nat :=
  let c0_i32_109 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_108 : BitVec 32 := 1#32
  let v133 : BitVec 32 := Scalar.muli v4 c1_i32_108
  let v134 : BitVec 32 := Scalar.addi c0_i32_109 v133
  v134.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_9 : BitVec 32 := 2#32
  let v14 : BitVec 1 := Scalar.cmpi .slt v2 c2_i32_9
  let c0_i32_10 : BitVec 32 := 0#32
  let c256_i32_11 : BitVec 32 := 256#32
  let v15 : BitVec 32 := Scalar.select v14 c0_i32_10 c256_i32_11
  let v149 : Index := Scalar.indexCast v15
  let c384 : Index := 384#32
  ![v149.toNat, 384]
def k0_off12 (d0 : Dev nD) : Fin 2 → Nat :=
  let c2_i32_20 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_9 : BitVec 32 := 2#32
  let v14 : BitVec 1 := Scalar.cmpi .slt v2 c2_i32_9
  let c0_i32_10 : BitVec 32 := 0#32
  let c256_i32_11 : BitVec 32 := 256#32
  let v15 : BitVec 32 := Scalar.select v14 c0_i32_10 c256_i32_11
  let v27 : BitVec 32 := Scalar.muli c2_i32_20 v15
  let c128_i32_21 : BitVec 32 := 128#32
  let v28 : BitVec 32 := Scalar.addi v27 c128_i32_21
  let c1_i32_14 : BitVec 32 := 1#32
  let v19 : BitVec 1 := Scalar.cmpi .eq v2 c1_i32_14
  let c3_i32_15 : BitVec 32 := 3#32
  let v20 : BitVec 1 := Scalar.cmpi .eq v2 c3_i32_15
  let v21 : BitVec 1 := Scalar.ori v19 v20
  let c128_i32_16 : BitVec 32 := 128#32
  let c0_i32_17 : BitVec 32 := 0#32
  let v22 : BitVec 32 := Scalar.select v21 c128_i32_16 c0_i32_17
  let v23 : BitVec 32 := Scalar.addi v15 v22
  let v29 : BitVec 32 := Scalar.subi v28 v23
  let c384_i32_130 : BitVec 32 := 384#32
  ![v29.toNat, 384]
def k0_dev10 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_126 : BitVec 32 := 1#32
  let v157 : BitVec 32 := Scalar.muli v3 c1_i32_126
  let v158 : BitVec 32 := Scalar.addi c0_i32_127 v157
  v158.toNat
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v10 : BitVec 1 := Scalar.cmpi .eq v2 c0_i32_6
  let c3_i32_7 : BitVec 32 := 3#32
  let v11 : BitVec 1 := Scalar.cmpi .eq v2 c3_i32_7
  let v12 : BitVec 1 := Scalar.ori v10 v11
  let c0_i32_8 : BitVec 32 := 0#32
  let c256_i32 : BitVec 32 := 256#32
  let v13 : BitVec 32 := Scalar.select v12 c0_i32_8 c256_i32
  let c2_i32_12 : BitVec 32 := 2#32
  let v16 : BitVec 1 := Scalar.cmpi .sge v2 c2_i32_12
  let c128_i32 : BitVec 32 := 128#32
  let c0_i32_13 : BitVec 32 := 0#32
  let v17 : BitVec 32 := Scalar.select v16 c128_i32 c0_i32_13
  let v18 : BitVec 32 := Scalar.addi v13 v17
  let v173 : Index := Scalar.indexCast v18
  let c0_139 : Index := 0#32
  ![v173.toNat, 0]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v10 : BitVec 1 := Scalar.cmpi .eq v2 c0_i32_6
  let c3_i32_7 : BitVec 32 := 3#32
  let v11 : BitVec 1 := Scalar.cmpi .eq v2 c3_i32_7
  let v12 : BitVec 1 := Scalar.ori v10 v11
  let c0_i32_8 : BitVec 32 := 0#32
  let c256_i32 : BitVec 32 := 256#32
  let v13 : BitVec 32 := Scalar.select v12 c0_i32_8 c256_i32
  let c2_i32_12 : BitVec 32 := 2#32
  let v16 : BitVec 1 := Scalar.cmpi .sge v2 c2_i32_12
  let c128_i32 : BitVec 32 := 128#32
  let c0_i32_13 : BitVec 32 := 0#32
  let v17 : BitVec 32 := Scalar.select v16 c128_i32 c0_i32_13
  let v18 : BitVec 32 := Scalar.addi v13 v17
  let c0_i32_147 : BitVec 32 := 0#32
  ![v18.toNat, 0]
def k0_dev11 (d0 : Dev nD) : Nat :=
  let c0_i32_146 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_145 : BitVec 32 := 1#32
  let v181 : BitVec 32 := Scalar.muli v4 c1_i32_145
  let v182 : BitVec 32 := Scalar.addi c0_i32_146 v181
  v182.toNat
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_9 : BitVec 32 := 2#32
  let v14 : BitVec 1 := Scalar.cmpi .slt v2 c2_i32_9
  let c0_i32_10 : BitVec 32 := 0#32
  let c256_i32_11 : BitVec 32 := 256#32
  let v15 : BitVec 32 := Scalar.select v14 c0_i32_10 c256_i32_11
  let c1_i32_14 : BitVec 32 := 1#32
  let v19 : BitVec 1 := Scalar.cmpi .eq v2 c1_i32_14
  let c3_i32_15 : BitVec 32 := 3#32
  let v20 : BitVec 1 := Scalar.cmpi .eq v2 c3_i32_15
  let v21 : BitVec 1 := Scalar.ori v19 v20
  let c128_i32_16 : BitVec 32 := 128#32
  let c0_i32_17 : BitVec 32 := 0#32
  let v22 : BitVec 32 := Scalar.select v21 c128_i32_16 c0_i32_17
  let v23 : BitVec 32 := Scalar.addi v15 v22
  let v196 : Index := Scalar.indexCast v23
  let c256_157 : Index := 256#32
  ![v196.toNat, 256]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_9 : BitVec 32 := 2#32
  let v14 : BitVec 1 := Scalar.cmpi .slt v2 c2_i32_9
  let c0_i32_10 : BitVec 32 := 0#32
  let c256_i32_11 : BitVec 32 := 256#32
  let v15 : BitVec 32 := Scalar.select v14 c0_i32_10 c256_i32_11
  let c1_i32_14 : BitVec 32 := 1#32
  let v19 : BitVec 1 := Scalar.cmpi .eq v2 c1_i32_14
  let c3_i32_15 : BitVec 32 := 3#32
  let v20 : BitVec 1 := Scalar.cmpi .eq v2 c3_i32_15
  let v21 : BitVec 1 := Scalar.ori v19 v20
  let c128_i32_16 : BitVec 32 := 128#32
  let c0_i32_17 : BitVec 32 := 0#32
  let v22 : BitVec 32 := Scalar.select v21 c128_i32_16 c0_i32_17
  let v23 : BitVec 32 := Scalar.addi v15 v22
  let c256_i32_165 : BitVec 32 := 256#32
  ![v23.toNat, 256]
def k0_dev12 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_163 : BitVec 32 := 1#32
  let v204 : BitVec 32 := Scalar.muli v3 c1_i32_163
  let v205 : BitVec 32 := Scalar.addi c0_i32_164 v204
  v205.toNat
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v10 : BitVec 1 := Scalar.cmpi .eq v2 c0_i32_6
  let c3_i32_7 : BitVec 32 := 3#32
  let v11 : BitVec 1 := Scalar.cmpi .eq v2 c3_i32_7
  let v12 : BitVec 1 := Scalar.ori v10 v11
  let c0_i32_8 : BitVec 32 := 0#32
  let c256_i32 : BitVec 32 := 256#32
  let v13 : BitVec 32 := Scalar.select v12 c0_i32_8 c256_i32
  let c2_i32_12 : BitVec 32 := 2#32
  let v16 : BitVec 1 := Scalar.cmpi .sge v2 c2_i32_12
  let c128_i32 : BitVec 32 := 128#32
  let c0_i32_13 : BitVec 32 := 0#32
  let v17 : BitVec 32 := Scalar.select v16 c128_i32 c0_i32_13
  let v18 : BitVec 32 := Scalar.addi v13 v17
  let v219 : Index := Scalar.indexCast v18
  let c128_175 : Index := 128#32
  ![v219.toNat, 128]
def k0_off18 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v10 : BitVec 1 := Scalar.cmpi .eq v2 c0_i32_6
  let c3_i32_7 : BitVec 32 := 3#32
  let v11 : BitVec 1 := Scalar.cmpi .eq v2 c3_i32_7
  let v12 : BitVec 1 := Scalar.ori v10 v11
  let c0_i32_8 : BitVec 32 := 0#32
  let c256_i32 : BitVec 32 := 256#32
  let v13 : BitVec 32 := Scalar.select v12 c0_i32_8 c256_i32
  let c2_i32_12 : BitVec 32 := 2#32
  let v16 : BitVec 1 := Scalar.cmpi .sge v2 c2_i32_12
  let c128_i32 : BitVec 32 := 128#32
  let c0_i32_13 : BitVec 32 := 0#32
  let v17 : BitVec 32 := Scalar.select v16 c128_i32 c0_i32_13
  let v18 : BitVec 32 := Scalar.addi v13 v17
  let c128_i32_183 : BitVec 32 := 128#32
  ![v18.toNat, 128]
def k0_dev13 (d0 : Dev nD) : Nat :=
  let c0_i32_182 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_181 : BitVec 32 := 1#32
  let v227 : BitVec 32 := Scalar.muli v4 c1_i32_181
  let v228 : BitVec 32 := Scalar.addi c0_i32_182 v227
  v228.toNat
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_9 : BitVec 32 := 2#32
  let v14 : BitVec 1 := Scalar.cmpi .slt v2 c2_i32_9
  let c0_i32_10 : BitVec 32 := 0#32
  let c256_i32_11 : BitVec 32 := 256#32
  let v15 : BitVec 32 := Scalar.select v14 c0_i32_10 c256_i32_11
  let c1_i32_14 : BitVec 32 := 1#32
  let v19 : BitVec 1 := Scalar.cmpi .eq v2 c1_i32_14
  let c3_i32_15 : BitVec 32 := 3#32
  let v20 : BitVec 1 := Scalar.cmpi .eq v2 c3_i32_15
  let v21 : BitVec 1 := Scalar.ori v19 v20
  let c128_i32_16 : BitVec 32 := 128#32
  let c0_i32_17 : BitVec 32 := 0#32
  let v22 : BitVec 32 := Scalar.select v21 c128_i32_16 c0_i32_17
  let v23 : BitVec 32 := Scalar.addi v15 v22
  let v242 : Index := Scalar.indexCast v23
  let c384_193 : Index := 384#32
  ![v242.toNat, 384]
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_9 : BitVec 32 := 2#32
  let v14 : BitVec 1 := Scalar.cmpi .slt v2 c2_i32_9
  let c0_i32_10 : BitVec 32 := 0#32
  let c256_i32_11 : BitVec 32 := 256#32
  let v15 : BitVec 32 := Scalar.select v14 c0_i32_10 c256_i32_11
  let c1_i32_14 : BitVec 32 := 1#32
  let v19 : BitVec 1 := Scalar.cmpi .eq v2 c1_i32_14
  let c3_i32_15 : BitVec 32 := 3#32
  let v20 : BitVec 1 := Scalar.cmpi .eq v2 c3_i32_15
  let v21 : BitVec 1 := Scalar.ori v19 v20
  let c128_i32_16 : BitVec 32 := 128#32
  let c0_i32_17 : BitVec 32 := 0#32
  let v22 : BitVec 32 := Scalar.select v21 c128_i32_16 c0_i32_17
  let v23 : BitVec 32 := Scalar.addi v15 v22
  let c384_i32_201 : BitVec 32 := 384#32
  ![v23.toNat, 384]
def k0_dev14 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_199 : BitVec 32 := 1#32
  let v250 : BitVec 32 := Scalar.muli v3 c1_i32_199
  let v251 : BitVec 32 := Scalar.addi c0_i32_200 v250
  v251.toNat
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v10 : BitVec 1 := Scalar.cmpi .eq v2 c0_i32_6
  let c3_i32_7 : BitVec 32 := 3#32
  let v11 : BitVec 1 := Scalar.cmpi .eq v2 c3_i32_7
  let v12 : BitVec 1 := Scalar.ori v10 v11
  let c0_i32_8 : BitVec 32 := 0#32
  let c256_i32 : BitVec 32 := 256#32
  let v13 : BitVec 32 := Scalar.select v12 c0_i32_8 c256_i32
  let c0_i32_212 : BitVec 32 := 0#32
  ![v13.toNat, 0]
def k0_dev15 (d0 : Dev nD) : Nat :=
  let c0_i32_211 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_210 : BitVec 32 := 1#32
  let v264 : BitVec 32 := Scalar.muli v3 c1_i32_210
  let v265 : BitVec 32 := Scalar.addi c0_i32_211 v264
  v265.toNat
def k0_off22 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_9 : BitVec 32 := 2#32
  let v14 : BitVec 1 := Scalar.cmpi .slt v2 c2_i32_9
  let c0_i32_10 : BitVec 32 := 0#32
  let c256_i32_11 : BitVec 32 := 256#32
  let v15 : BitVec 32 := Scalar.select v14 c0_i32_10 c256_i32_11
  let c256_i32_223 : BitVec 32 := 256#32
  ![v15.toNat, 256]
def k0_dev16 (d0 : Dev nD) : Nat :=
  let c0_i32_222 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_221 : BitVec 32 := 1#32
  let v278 : BitVec 32 := Scalar.muli v4 c1_i32_221
  let v279 : BitVec 32 := Scalar.addi c0_i32_222 v278
  v279.toNat
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v10 : BitVec 1 := Scalar.cmpi .eq v2 c0_i32_6
  let c3_i32_7 : BitVec 32 := 3#32
  let v11 : BitVec 1 := Scalar.cmpi .eq v2 c3_i32_7
  let v12 : BitVec 1 := Scalar.ori v10 v11
  let c0_i32_8 : BitVec 32 := 0#32
  let c256_i32 : BitVec 32 := 256#32
  let v13 : BitVec 32 := Scalar.select v12 c0_i32_8 c256_i32
  let c128_i32_234 : BitVec 32 := 128#32
  ![v13.toNat, 128]
def k0_dev17 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_232 : BitVec 32 := 1#32
  let v292 : BitVec 32 := Scalar.muli v3 c1_i32_232
  let v293 : BitVec 32 := Scalar.addi c0_i32_233 v292
  v293.toNat
def k0_off24 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_9 : BitVec 32 := 2#32
  let v14 : BitVec 1 := Scalar.cmpi .slt v2 c2_i32_9
  let c0_i32_10 : BitVec 32 := 0#32
  let c256_i32_11 : BitVec 32 := 256#32
  let v15 : BitVec 32 := Scalar.select v14 c0_i32_10 c256_i32_11
  let c384_i32_245 : BitVec 32 := 384#32
  ![v15.toNat, 384]
def k0_dev18 (d0 : Dev nD) : Nat :=
  let c0_i32_244 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_243 : BitVec 32 := 1#32
  let v306 : BitVec 32 := Scalar.muli v4 c1_i32_243
  let v307 : BitVec 32 := Scalar.addi c0_i32_244 v306
  v307.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩
abbrev S4x512x512 : Shape := ⟨3, ![4, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S4x512x512, .f32⟩
  | .hbm, ⟨2, _⟩ => ⟨S_, .f32⟩
  | .hbm, ⟨3, _⟩ => ⟨S512x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ideal.Geometry.lean ====
/-
The geometry of the exchange: which devices speak to which, which rows and columns a transfer covers, and how these pieces
tile the buffers. The four chains of the kernel (two directions, two column blocks each) are indexed by `k : Fin 4`; a chain
works on the columns `128 * k .. 128 * k + 127` and on slot `k` of the landing buffers.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen
open Idealize.ShloMosaic
open Idealize.ShloMosaic.TcCoe

/-! ## Partners -/

/-- The partner across the first axis: 0 with 1, 2 with 3. -/
def acrossA (c : Dev nD) : Dev nD := (![1, 0, 3, 2] : Fin 4 → Fin 4) c
/-- The partner across the second axis: 0 with 3, 1 with 2. -/
def acrossB (c : Dev nD) : Dev nD := (![3, 2, 1, 0] : Fin 4 → Fin 4) c
/-- The partner of chain `k` in its outer phases (the first and the last). -/
def near (k : Fin 4) (c : Dev nD) : Dev nD := if k.val < 2 then acrossA c else acrossB c
/-- The partner of chain `k` in its inner phases (the second and the third). -/
def far (k : Fin 4) (c : Dev nD) : Dev nD := if k.val < 2 then acrossB c else acrossA c
/-- The partner of chain `k` in phase `j`. -/
def peer (j k : Fin 4) (c : Dev nD) : Dev nD := if j = 0 ∨ j = 3 then near k c else far k c

theorem acrossA_acrossA (c : Dev nD) : acrossA (acrossA c) = c := by revert c; decide
theorem acrossB_acrossB (c : Dev nD) : acrossB (acrossB c) = c := by revert c; decide
theorem near_near (k : Fin 4) (c : Dev nD) : near k (near k c) = c := by revert k c; decide
theorem far_far (k : Fin 4) (c : Dev nD) : far k (far k c) = c := by revert k c; decide
theorem peer_peer (j k : Fin 4) (c : Dev nD) : peer j k (peer j k c) = c := by revert j k c; decide

/-! ## Rows -/

/-- The first row of the half of the rows chain `k` sums on device `c`. -/
def keep (k : Fin 4) (c : Dev nD) : ℕ := if k.val < 2 then (![0, 256, 256, 0] : Fin 4 → ℕ) c else (![0, 0, 256, 256] : Fin 4 → ℕ) c
/-- The first row of the other half. -/
def other (k : Fin 4) (c : Dev nD) : ℕ := 256 - keep k c
/-- The first row of the quarter of the rows whose sum chain `k` completes on device `c`. -/
def own (k : Fin 4) (c : Dev nD) : ℕ := if k.val < 2 then (![0, 256, 384, 128] : Fin 4 → ℕ) c else (![0, 128, 256, 384] : Fin 4 → ℕ) c
/-- The first row of the other quarter of the half. -/
def part (k : Fin 4) (c : Dev nD) : ℕ := 2 * keep k c + 128 - own k c

theorem keep_le (k : Fin 4) (c : Dev nD) : keep k c ≤ 256 := by revert k c; decide
theorem other_le (k : Fin 4) (c : Dev nD) : other k c ≤ 256 := by revert k c; decide
theorem own_le (k : Fin 4) (c : Dev nD) : own k c ≤ 384 := by revert k c; decide
theorem part_le (k : Fin 4) (c : Dev nD) : part k c ≤ 384 := by revert k c; decide
theorem keep_near (k : Fin 4) (c : Dev nD) : keep k (near k c) = other k c := by revert k c; decide
theorem other_near (k : Fin 4) (c : Dev nD) : other k (near k c) = keep k c := by revert k c; decide
theorem keep_far (k : Fin 4) (c : Dev nD) : keep k (far k c) = keep k c := by revert k c; decide
theorem own_far (k : Fin 4) (c : Dev nD) : own k (far k c) = part k c := by revert k c; decide
theorem part_far (k : Fin 4) (c : Dev nD) : part k (far k c) = own k c := by revert k c; decide
/-- The half is one of the two halves. -/
theorem keep_cases (k : Fin 4) (c : Dev nD) : (keep k c = 0 ∧ other k c = 256) ∨ (keep k c = 256 ∧ other k c = 0) := by revert k c; decide
/-- The two quarters of a half, in one order or the other. -/
theorem own_cases (k : Fin 4) (c : Dev nD) :
    (own k c = keep k c ∧ part k c = keep k c + 128) ∨ (own k c = keep k c + 128 ∧ part k c = keep k c) := by revert k c; decide

/-- The device that completes the sum of the rows `128 * q .. 128 * q + 127` in chain `k`. -/
def owner (k q : Fin 4) : Dev nD := if k.val < 2 then (![0, 3, 1, 2] : Fin 4 → Fin 4) q else q
theorem owner_own (k : Fin 4) (c : Dev nD) : ∀ q : Fin 4, 128 * q.val = own k c → owner k q = c := by revert k c; decide

/-! ## The regions of the two staging buffers -/

/-- The `n` rows from row `r`, in the columns of chain `k`. -/
def reg (r n : ℕ) (k : Fin 4) : Finset S512x512.Idx :=
  Finset.univ.filter fun i => (r ≤ (i 0).val ∧ (i 0).val < r + n) ∧ 128 * k.val ≤ (i 1).val ∧ (i 1).val < 128 * k.val + 128

theorem mem_reg {r n : ℕ} {k : Fin 4} {i : S512x512.Idx} :
    i ∈ reg r n k ↔ (r ≤ (i 0).val ∧ (i 0).val < r + n) ∧ 128 * k.val ≤ (i 1).val ∧ (i 1).val < 128 * k.val + 128 := by
  unfold reg; rw [Finset.mem_filter]; exact ⟨fun h => h.2, fun h => ⟨Finset.mem_univ _, h⟩⟩

theorem rectBig_set (r : ℕ) (k : Fin 4) (h : ∀ a, (![r, 128 * k.val] : Fin 2 → ℕ) a + S256x128.size a ≤ S512x512.size a) :
    (Rect.unit (s := S512x512) ![r, 128 * k.val] S256x128.size h).set = reg r 256 k := by
  ext i
  rw [Rect.mem_set_unit, mem_reg, Fin.forall_fin_two]
  exact Iff.rfl

theorem rectSmall_set (r : ℕ) (k : Fin 4) (h : ∀ a, (![r, 128 * k.val] : Fin 2 → ℕ) a + S128x128.size a ≤ S512x512.size a) :
    (Rect.unit (s := S512x512) ![r, 128 * k.val] S128x128.size h).set = reg r 128 k := by
  ext i
  rw [Rect.mem_set_unit, mem_reg, Fin.forall_fin_two]
  exact Iff.rfl

theorem reg_disjoint_rows {r r' n n' : ℕ} (k : Fin 4) (h : r + n ≤ r' ∨ r' + n' ≤ r) : Disjoint (reg r n k) (reg r' n' k) := by
  rw [Finset.disjoint_left]; intro i hi hj; rw [mem_reg] at hi hj; omega

theorem reg_disjoint_cols {r r' n n' : ℕ} {k k' : Fin 4} (h : k ≠ k') : Disjoint (reg r n k) (reg r' n' k') := by
  rw [Finset.disjoint_left]; intro i hi hj; rw [mem_reg] at hi hj
  exact h (Fin.ext (by omega))

theorem keep_other_disjoint (k : Fin 4) (c : Dev nD) : Disjoint (reg (keep k c) 256 k) (reg (other k c) 256 k) :=
  reg_disjoint_rows k (by rcases keep_cases k c with h | h <;> omega)
theorem own_part_disjoint (k : Fin 4) (c : Dev nD) : Disjoint (reg (own k c) 128 k) (reg (part k c) 128 k) :=
  reg_disjoint_rows k (by rcases own_cases k c with h | h <;> omega)

/-- The columns of chain `k`, all rows. -/
def colReg (k : Fin 4) : Finset S512x512.Idx := reg 0 512 k

theorem keep_union_other (k : Fin 4) (c : Dev nD) : reg (keep k c) 256 k ∪ reg (other k c) 256 k = colReg k := by
  ext i; rw [Finset.mem_union]; unfold colReg; rw [mem_reg, mem_reg, mem_reg]
  rcases keep_cases k c with h | h <;> omega
theorem own_union_part (k : Fin 4) (c : Dev nD) : reg (own k c) 128 k ∪ reg (part k c) 128 k = reg (keep k c) 256 k := by
  ext i; rw [Finset.mem_union, mem_reg, mem_reg, mem_reg]
  rcases own_cases k c with h | h <;> omega
theorem biUnion_colReg : (Finset.univ : Finset (Fin 4)).biUnion colReg = Finset.univ := by
  ext i
  rw [Finset.mem_biUnion]
  refine ⟨fun _ => Finset.mem_univ _, fun _ => ?_⟩
  have h1 : (i 1).val < 512 := (i 1).isLt
  have h0 : (i 0).val < 512 := (i 0).isLt
  refine ⟨⟨(i 1).val / 128, by omega⟩, Finset.mem_univ _, ?_⟩
  unfold colReg; rw [mem_reg]; dsimp only; omega

/-! ## The memrefs -/

abbrev xM : Memref sig .tc .vmem S512x512 .f32 := Memref.whole cc0_stg0_0
abbrev oM : Memref sig .tc .vmem S512x512 .f32 := Memref.whole cc0_stg1_0
abbrev aM : Memref sig .tc .vmem S4x256x128 .f32 := Memref.whole cc0_scratch0
abbrev bM : Memref sig .tc .vmem S4x128x128 .f32 := Memref.whole cc0_scratch1

theorem inbBig {r : ℕ} (h : r ≤ 256) (k : Fin 4) : ∀ a, (![r, 128 * k.val] : Fin 2 → ℕ) a + S256x128.size a ≤ S512x512.size a := by
  rw [Fin.forall_fin_two]; exact ⟨show r + 256 ≤ 512 by omega, show 128 * k.val + 128 ≤ 512 by omega⟩
theorem inbSmall {r : ℕ} (h : r ≤ 384) (k : Fin 4) : ∀ a, (![r, 128 * k.val] : Fin 2 → ℕ) a + S128x128.size a ≤ S512x512.size a := by
  rw [Fin.forall_fin_two]; exact ⟨show r + 128 ≤ 512 by omega, show 128 * k.val + 128 ≤ 512 by omega⟩
theorem inbA (k : Fin 4) : ∀ a, (![k.val, 0, 0] : Fin 3 → ℕ) a + S1x256x128.size a ≤ S4x256x128.size a := by revert k; decide
theorem inbB (k : Fin 4) : ∀ a, (![k.val, 0, 0] : Fin 3 → ℕ) a + S1x128x128.size a ≤ S4x128x128.size a := by revert k; decide

/-- The rectangles of the staging buffers and of the landing buffers. -/
abbrev rBig (r : ℕ) (h : r ≤ 256) (k : Fin 4) : Rect S512x512 := Rect.unit (s := S512x512) ![r, 128 * k.val] S256x128.size (inbBig h k)
abbrev rSmall (r : ℕ) (h : r ≤ 384) (k : Fin 4) : Rect S512x512 := Rect.unit (s := S512x512) ![r, 128 * k.val] S128x128.size (inbSmall h k)
abbrev rA (k : Fin 4) : Rect S4x256x128 := Rect.unit (s := S4x256x128) ![k.val, 0, 0] S1x256x128.size (inbA k)
abbrev rB (k : Fin 4) : Rect S4x128x128 := Rect.unit (s := S4x128x128) ![k.val, 0, 0] S1x128x128.size (inbB k)

/-- The halves and the quarters of the staging buffers, and slot `k` of the landing buffers, as views. -/
abbrev xBig (r : ℕ) (h : r ≤ 256) (k : Fin 4) : Memref sig .tc .vmem S256x128 .f32 := xM.slice (rBig r h k) (fun _ => rfl)
abbrev oBig (r : ℕ) (h : r ≤ 256) (k : Fin 4) : Memref sig .tc .vmem S256x128 .f32 := oM.slice (rBig r h k) (fun _ => rfl)
abbrev oSmall (r : ℕ) (h : r ≤ 384) (k : Fin 4) : Memref sig .tc .vmem S128x128 .f32 := oM.slice (rSmall r h k) (fun _ => rfl)
abbrev slotA (k : Fin 4) : Memref sig .tc .vmem S256x128 .f32 := (aM.slice (rA k) (fun _ => rfl)).squeeze S256x128 squeezes_S1x256x128_S256x128
abbrev slotB (k : Fin 4) : Memref sig .tc .vmem S128x128 .f32 := (bM.slice (rB k) (fun _ => rfl)).squeeze S128x128 squeezes_S1x128x128_S128x128

theorem set_xBig (r : ℕ) (h : r ≤ 256) (k : Fin 4) : (xBig r h k).view.set = reg r 256 k :=
  (View.set_slice_whole _ _).trans (rectBig_set r k _)
theorem set_oBig (r : ℕ) (h : r ≤ 256) (k : Fin 4) : (oBig r h k).view.set = reg r 256 k :=
  (View.set_slice_whole _ _).trans (rectBig_set r k _)
theorem set_oSmall (r : ℕ) (h : r ≤ 384) (k : Fin 4) : (oSmall r h k).view.set = reg r 128 k :=
  (View.set_slice_whole _ _).trans (rectSmall_set r k _)
theorem set_slotA (k : Fin 4) : (slotA k).view.set = (rA k).set :=
  (View.set_reshape _ _).trans (View.set_slice_whole _ _)
theorem set_slotB (k : Fin 4) : (slotB k).view.set = (rB k).set :=
  (View.set_reshape _ _).trans (View.set_slice_whole _ _)

theorem mem_rA {k : Fin 4} {i : S4x256x128.Idx} : i ∈ (rA k).set ↔ (i 0).val = k.val := by
  rw [Rect.mem_set_unit]
  constructor
  · intro h
    have h0 : k.val ≤ (i 0).val ∧ (i 0).val < k.val + 1 := h 0
    omega
  · intro h a
    have h1 : (i 1).val < 256 := (i 1).isLt
    have h2 : (i 2).val < 128 := (i 2).isLt
    match a with
    | ⟨0, _⟩ => exact ⟨show k.val ≤ (i 0).val by omega, show (i 0).val < k.val + 1 by omega⟩
    | ⟨1, _⟩ => exact ⟨Nat.zero_le _, show (i 1).val < 0 + 256 by omega⟩
    | ⟨2, _⟩ => exact ⟨Nat.zero_le _, show (i 2).val < 0 + 128 by omega⟩
theorem mem_rB {k : Fin 4} {i : S4x128x128.Idx} : i ∈ (rB k).set ↔ (i 0).val = k.val := by
  rw [Rect.mem_set_unit]
  constructor
  · intro h
    have h0 : k.val ≤ (i 0).val ∧ (i 0).val < k.val + 1 := h 0
    omega
  · intro h a
    have h1 : (i 1).val < 128 := (i 1).isLt
    have h2 : (i 2).val < 128 := (i 2).isLt
    match a with
    | ⟨0, _⟩ => exact ⟨show k.val ≤ (i 0).val by omega, show (i 0).val < k.val + 1 by omega⟩
    | ⟨1, _⟩ => exact ⟨Nat.zero_le _, show (i 1).val < 0 + 128 by omega⟩
    | ⟨2, _⟩ => exact ⟨Nat.zero_le _, show (i 2).val < 0 + 128 by omega⟩

theorem slotA_disjoint {k k' : Fin 4} (h : k ≠ k') : Disjoint (rA k).set (rA k').set := by
  rw [Finset.disjoint_left]; intro i hi hj; rw [mem_rA] at hi hj; exact h (Fin.ext (hi.symm.trans hj))
theorem slotB_disjoint {k k' : Fin 4} (h : k ≠ k') : Disjoint (rB k).set (rB k').set := by
  rw [Finset.disjoint_left]; intro i hi hj; rw [mem_rB] at hi hj; exact h (Fin.ext (hi.symm.trans hj))
theorem biUnion_slotA : (Finset.univ : Finset (Fin 4)).biUnion (fun k => (rA k).set) = Finset.univ := by
  ext i; rw [Finset.mem_biUnion]
  exact ⟨fun _ => Finset.mem_univ _, fun _ => ⟨i 0, Finset.mem_univ _, mem_rA.mpr rfl⟩⟩
theorem biUnion_slotB : (Finset.univ : Finset (Fin 4)).biUnion (fun k => (rB k).set) = Finset.univ := by
  ext i; rw [Finset.mem_biUnion]
  exact ⟨fun _ => Finset.mem_univ _, fun _ => ⟨i 0, Finset.mem_univ _, mem_rB.mpr rfl⟩⟩

end Cert.KernelIdeal.Exchange
-- ==== Proof.Ideal.Schedule.lean ====
/-
The contents the buffers take, what each semaphore cell hands its owner, and the order in which the credits are owed.
-/
module

public import proofs.«01_k».proof.Proof.Ideal.Geometry

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's own ghost state: the rounds of its cells, a duty of a cell named by a truth value. -/
abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The state at launch: any contents, every semaphore counter zero, any generator registers. -/
def s₀ : MemSt nD τ sig (Elt F) := ⟨m, fun _ => 0, ρ⟩

/-! ## The cells -/

/-- The runtime's barrier semaphore. -/
abbrev barS : Sem sig := (SemArray.scalar (sig.barrier 0 rfl) : Sems sig S_).sem
/-- The semaphore that counts what chain `k` has sent in phase `j`. -/
def sS (j k : Fin 4) : DmaSem sig := ⟨2 + 4 * j.val + k.val, by have := j.isLt; have := k.isLt; show _ < 34; omega⟩
/-- The semaphore that counts what chain `k` has received in phase `j`. -/
def rS (j k : Fin 4) : DmaSem sig := ⟨18 + 4 * j.val + k.val, by have := j.isLt; have := k.isLt; show _ < 34; omega⟩

abbrev barC (c : Dev nD) : GSem nD τ sig := ((c : Thread nD τ), .reg barS)
abbrev sC (j k : Fin 4) (c : Dev nD) : GSem nD τ sig := ((c : Thread nD τ), .dma (sS j k))
abbrev rC (j k : Fin 4) (c : Dev nD) : GSem nD τ sig := ((c : Thread nD τ), .dma (rS j k))

/-- The phase and the chain of a semaphore. -/
def phaseOf (q : DmaSem sig) : Fin 4 := ⟨(q.val - 2) / 4 % 4, Nat.mod_lt _ (by decide)⟩
def chainOf (q : DmaSem sig) : Fin 4 := ⟨(q.val - 2) % 4, Nat.mod_lt _ (by decide)⟩

theorem phaseOf_sS (j k : Fin 4) : phaseOf (sS j k) = j := by revert j k; decide
theorem chainOf_sS (j k : Fin 4) : chainOf (sS j k) = k := by revert j k; decide
theorem phaseOf_rS (j k : Fin 4) : phaseOf (rS j k) = j := by revert j k; decide
theorem chainOf_rS (j k : Fin 4) : chainOf (rS j k) = k := by revert j k; decide
theorem sS_lt (j k : Fin 4) : (sS j k).val < 18 := by revert j k; decide
theorem sS_ge (j k : Fin 4) : 2 ≤ (sS j k).val := by revert j k; decide
theorem rS_ge (j k : Fin 4) : 18 ≤ (rS j k).val := by revert j k; decide

/-- The cells of one device, numbered: the barrier, then the sixteen sending and the sixteen receiving ones. -/
def csem (i : Fin 33) : SemLoc sig := if i.val = 0 then .reg barS else .dma ⟨i.val + 1, by have := i.isLt; show _ < 34; omega⟩
abbrev kcell (ci : Dev nD × Fin 33) : GSem nD τ sig := ((ci.1 : Thread nD τ), csem ci.2)
def sIx (j k : Fin 4) : Fin 33 := ⟨1 + 4 * j.val + k.val, by have := j.isLt; have := k.isLt; omega⟩
def rIx (j k : Fin 4) : Fin 33 := ⟨17 + 4 * j.val + k.val, by have := j.isLt; have := k.isLt; omega⟩
theorem csem_bar : csem 0 = .reg barS := if_pos rfl
theorem csem_sIx (j k : Fin 4) : csem (sIx j k) = .dma (sS j k) := by revert j k; decide
theorem csem_rIx (j k : Fin 4) : csem (rIx j k) = .dma (rS j k) := by revert j k; decide

/-- The bytes a transfer of the outer phases carries, and one of the inner phases. -/
abbrev NA : ℕ := (slotA 0).view.dmaCredit
abbrev NB : ℕ := (slotB 0).view.dmaCredit
theorem NA_pos : 0 < NA := View.dmaCredit_pos _ (by decide)
theorem NB_pos : 0 < NB := View.dmaCredit_pos _ (by decide)
def amt (j : Fin 4) : ℕ := if j = 0 ∨ j = 3 then NA else NB
theorem amt_pos (j : Fin 4) : 0 < amt j := by unfold amt; split; exacts [NA_pos, NB_pos]

/-! ## Contents -/

/-- Device `c`'s block of the input. -/
def X (c : Dev nD) : FVec F S512x512 .f32 :=
  (win0_0.blk (0 : Fin 1)).view.read (Elt F) ((s₀ m ρ).mem ((c : Thread nD τ).loc main_arg0))
/-- Device `c`'s block plus its near partner's. -/
def S1 (k : Fin 4) (c : Dev nD) : FVec F S512x512 .f32 := addf (X m ρ c) (X m ρ (near k c))
/-- The sum over all four devices, in the order device `c` takes it. -/
def S2 (k : Fin 4) (c : Dev nD) : FVec F S512x512 .f32 := addf (S1 m ρ k c) (S1 m ρ k (far k c))
/-- The quarter of the rows an element lies in. -/
def rowQ (i : S512x512.Idx) : Fin 4 := ⟨(i 0).val / 128, by have : (i 0).val < 512 := (i 0).isLt; omega⟩
def colQ (i : S512x512.Idx) : Fin 4 := ⟨(i 1).val / 128, by have : (i 1).val < 512 := (i 1).isLt; omega⟩
/-- Chain `k`'s result: every element as the device that completes its rows sums it. -/
def OUT (k : Fin 4) : FVec F S512x512 .f32 := fun i => S2 m ρ k (owner k (rowQ i)) i
/-- The kernel's result, the same on every device. -/
def RES : FVec F S512x512 .f32 := fun i => OUT m ρ (colQ i) i

theorem own_quarter (k : Fin 4) (c : Dev nD) : own k c = 0 ∨ own k c = 128 ∨ own k c = 256 ∨ own k c = 384 := by revert k c; decide

theorem OUT_own (k : Fin 4) (c : Dev nD) {i : S512x512.Idx} (hi : i ∈ reg (own k c) 128 k) : OUT m ρ k i = S2 m ρ k c i := by
  have h : owner k (rowQ i) = c := owner_own k c (rowQ i) (by
    have := own_quarter k c
    rw [mem_reg] at hi
    show 128 * ((i 0).val / 128) = _
    omega)
  unfold OUT; rw [h]
theorem RES_col (k : Fin 4) {i : S512x512.Idx} (hi : i ∈ colReg k) : RES m ρ i = OUT m ρ k i := by
  have h : colQ i = k := Fin.ext (by unfold colReg at hi; rw [mem_reg] at hi; show (i 1).val / 128 = k.val; omega)
  unfold RES; rw [h]

/-! ## Pieces of memory -/

/-- Elements of the input's, the output's and the two landing buffers of device `c`. -/
abbrev xPt (c : Dev nD) (S : Finset S512x512.Idx) (q : PosShare TreeShare) (f : FVec F S512x512 .f32) : sProp 𝕄 :=
  (((c : Thread nD τ).loc cc0_stg0_0) ↦[S]{q} f)
abbrev oPt (c : Dev nD) (S : Finset S512x512.Idx) (q : PosShare TreeShare) (f : FVec F S512x512 .f32) : sProp 𝕄 :=
  (((c : Thread nD τ).loc cc0_stg1_0) ↦[S]{q} f)
abbrev aPt (c : Dev nD) (k : Fin 4) (f : FVec F S4x256x128 .f32) : sProp 𝕄 :=
  (((c : Thread nD τ).loc cc0_scratch0) ↦[(rA k).set]{fullShare} f)
abbrev bPt (c : Dev nD) (k : Fin 4) (f : FVec F S4x128x128 .f32) : sProp 𝕄 :=
  (((c : Thread nD τ).loc cc0_scratch1) ↦[(rB k).set]{fullShare} f)

/-- What the views read of whole contents. -/
abbrev rdX (r : ℕ) (h : r ≤ 256) (k : Fin 4) (f : FVec F S512x512 .f32) : FVec F S256x128 .f32 := (xBig r h k).view.read (Elt F) f
abbrev rdO (r : ℕ) (h : r ≤ 384) (k : Fin 4) (f : FVec F S512x512 .f32) : FVec F S128x128 .f32 := (oSmall r h k).view.read (Elt F) f
abbrev rdA (k : Fin 4) (f : FVec F S4x256x128 .f32) : FVec F S256x128 .f32 := (slotA k).view.read (Elt F) f
abbrev rdB (k : Fin 4) (f : FVec F S4x128x128 .f32) : FVec F S128x128 .f32 := (slotB k).view.read (Elt F) f

/-- Slot `k` of the first landing buffer holding the half received from the near partner. -/
def aGot (k : Fin 4) (c : Dev nD) : sProp 𝕄 :=
  iprop(∃ f, ⌜rdA k f = rdX (keep k c) (keep_le k c) k (X m ρ (near k c))⌝ ∗ aPt c k f)
/-- Slot `k` of the second landing buffer holding the quarter received from the far partner. -/
def bGot (k : Fin 4) (c : Dev nD) : sProp 𝕄 :=
  iprop(∃ f, ⌜rdB k f = rdO (own k c) (own_le k c) k (S1 m ρ k (far k c))⌝ ∗ bPt c k f)
/-- The slots and the output's half a partner lends before the first transfer. -/
def nearPay (k : Fin 4) (c : Dev nD) : sProp 𝕄 :=
  iprop((∃ f, aPt (F := F) (near k c) k f) ∗ ∃ f, oPt (F := F) (near k c) (reg (keep k c) 256 k) fullShare f)
def farPay (k : Fin 4) (c : Dev nD) : sProp 𝕄 := iprop(∃ f, bPt (F := F) (far k c) k f)

/-! ## The schedule -/

/-- What completing a send gives back: the input's half; nothing, the quarter having gone with the transfer; the shares
    of the output lent to the last two sends. -/
def sendPay (j k : Fin 4) (c : Dev nD) : sProp 𝕄 := match j with
  | ⟨0, _⟩ => xPt c (reg (other k c) 256 k) fullShare (X m ρ c)
  | ⟨1, _⟩ => iprop(emp)
  | ⟨2, _⟩ => oPt c (reg (own k c) 128 k) fullShare.left (OUT m ρ k)
  | ⟨_ + 3, _⟩ => oPt c (reg (keep k c) 256 k) fullShare.right (OUT m ρ k)
/-- What a landing brings: the slot written (and, in the second phase, the sender's own quarter); the output's quarter;
    the output's other half. -/
def recvPay (j k : Fin 4) (c : Dev nD) : sProp 𝕄 := match j with
  | ⟨0, _⟩ => aGot m ρ k c
  | ⟨1, _⟩ => iprop(bGot m ρ k c ∗ oPt (far k c) (reg (own k c) 128 k) fullShare (S1 m ρ k (far k c)))
  | ⟨2, _⟩ => oPt c (reg (part k c) 128 k) fullShare (OUT m ρ k)
  | ⟨_ + 3, _⟩ => oPt c (reg (other k c) 256 k) fullShare (OUT m ρ k)
/-- What a partner's signal brings: from the first axis' partner (`false`) or the second's (`true`). -/
def barPay (b : Bool) (c : Dev nD) : sProp 𝕄 :=
  if b then iprop(nearPay (F := F) 2 c ∗ nearPay (F := F) 3 c ∗ farPay (F := F) 0 c ∗ farPay (F := F) 1 c)
  else iprop(nearPay (F := F) 0 c ∗ nearPay (F := F) 1 c ∗ farPay (F := F) 2 c ∗ farPay (F := F) 3 c)
def dmaPay (q : DmaSem sig) (c : Dev nD) : sProp 𝕄 :=
  if q.val < 18 then sendPay m ρ (phaseOf q) (chainOf q) c else recvPay m ρ (phaseOf q) (chainOf q) c

omit [FloatOps F] in
instance nearPay_storable (k : Fin 4) (c : Dev nD) : BI.Storable (upEmb : UEmb _ 𝕄) (nearPay (F := F) k c) := by unfold nearPay; infer_instance
omit [FloatOps F] in
instance farPay_storable (k : Fin 4) (c : Dev nD) : BI.Storable (upEmb : UEmb _ 𝕄) (farPay (F := F) k c) := by unfold farPay; infer_instance
instance sendPay_storable (j k : Fin 4) (c : Dev nD) : BI.Storable (upEmb : UEmb _ 𝕄) (sendPay m ρ j k c) := by
  unfold sendPay; split <;> infer_instance
instance recvPay_storable (j k : Fin 4) (c : Dev nD) : BI.Storable (upEmb : UEmb _ 𝕄) (recvPay m ρ j k c) := by
  unfold recvPay aGot bGot; split <;> infer_instance
omit [FloatOps F] in
instance barPay_storable (b : Bool) (c : Dev nD) : BI.Storable (upEmb : UEmb _ 𝕄) (barPay (F := F) b c) := by
  unfold barPay; split <;> infer_instance

/-- One round: the barrier's two units, and one landing per transfer semaphore. -/
def Rd : Rounds.Schedule (GSem nD τ sig) Bool 𝕄 where
  duties g r := if r = 0 ∧ g.1.2 = .tc then (match g.2 with | .reg _ => Finset.univ | .dma q => if 2 ≤ q.val then {false} else ∅) else ∅
  unitless _ := False
  amount g _ _ := match g.2 with | .reg _ => 1 | .dma q => amt (phaseOf q)
  payload g _ d := match g.2 with | .reg _ => barPay (F := F) d g.1.1 | .dma q => dmaPay m ρ q g.1.1
  amount_pos g _ _ _ := by
    obtain ⟨t, s | q⟩ := g
    · exact Nat.one_pos
    · exact amt_pos _

instance Rd_payload_storable (g : GSem nD τ sig) (r : ℕ) (d : Bool) : BI.Storable (upEmb : UEmb _ 𝕄) ((Rd (F := F) m ρ).payload g r d) := by
  show BI.Storable upEmb (match g.2 with | .reg _ => barPay (F := F) d g.1.1 | .dma q => dmaPay m ρ q g.1.1)
  unfold dmaPay
  (repeat' split) <;> infer_instance

section Sched
variable (j k : Fin 4) (c : Dev nD)

theorem duties_bar : (Rd (F := F) m ρ).duties (barC c) 0 = Finset.univ := by dsimp only [Rd]; exact if_pos ⟨rfl, rfl⟩
theorem duties_s : (Rd (F := F) m ρ).duties (sC j k c) 0 = {false} := by
  dsimp only [Rd]; rw [if_pos ⟨rfl, rfl⟩]; exact if_pos (sS_ge j k)
theorem duties_r : (Rd (F := F) m ρ).duties (rC j k c) 0 = {false} := by
  dsimp only [Rd]; rw [if_pos ⟨rfl, rfl⟩]; exact if_pos (le_trans (by decide) (rS_ge j k))
theorem duties_later (g : GSem nD τ sig) : ∀ r, 1 ≤ r → (Rd (F := F) m ρ).duties g r = ∅ :=
  fun r hr => by dsimp only [Rd]; exact if_neg fun h => by omega
theorem amount_bar (d : Bool) : (Rd (F := F) m ρ).amount (barC c) 0 d = 1 := rfl
theorem amount_s (d : Bool) : (Rd (F := F) m ρ).amount (sC j k c) 0 d = amt j := congrArg amt (phaseOf_sS j k)
theorem amount_r (d : Bool) : (Rd (F := F) m ρ).amount (rC j k c) 0 d = amt j := congrArg amt (phaseOf_rS j k)
theorem expect_bar : (Rd (F := F) m ρ).expect (barC c) 0 = 2 := by
  unfold Schedule.expect Schedule.amountOf
  rw [duties_bar, Finset.sum_congr rfl fun d _ => amount_bar m ρ c d, Finset.sum_const, Finset.card_univ, Fintype.card_bool, smul_eq_mul]
theorem expect_s : (Rd (F := F) m ρ).expect (sC j k c) 0 = amt j := by
  unfold Schedule.expect Schedule.amountOf; rw [duties_s, Finset.sum_singleton, amount_s]
theorem expect_r : (Rd (F := F) m ρ).expect (rC j k c) 0 = amt j := by
  unfold Schedule.expect Schedule.amountOf; rw [duties_r, Finset.sum_singleton, amount_r]
theorem payload_bar (d : Bool) : (Rd (F := F) m ρ).payload (barC c) 0 d = barPay (F := F) d c := rfl
theorem payload_s (d : Bool) : (Rd (F := F) m ρ).payload (sC j k c) 0 d = sendPay m ρ j k c := by
  dsimp only [Rd]; unfold dmaPay; rw [if_pos (sS_lt j k), phaseOf_sS, chainOf_sS]
theorem payload_r (d : Bool) : (Rd (F := F) m ρ).payload (rC j k c) 0 d = recvPay m ρ j k c := by
  dsimp only [Rd]; unfold dmaPay; rw [if_neg (by have := rS_ge j k; omega), phaseOf_rS, chainOf_rS]
theorem rest_bar : bigSep ((Rd (F := F) m ρ).duties (barC c) 0 \ ∅) (fun d => (Rd (F := F) m ρ).payload (barC c) 0 d)
    = iprop(barPay (F := F) false c ∗ barPay (F := F) true c) := by
  rw [Finset.sdiff_empty, duties_bar, bigSep_univ_eq_bigSepL [false, true] (by decide) (by decide), bigSepL_cons_cons, bigSepL_singleton]
  rfl
theorem rest_s : bigSep ((Rd (F := F) m ρ).duties (sC j k c) 0 \ ∅) (fun d => (Rd (F := F) m ρ).payload (sC j k c) 0 d) = sendPay m ρ j k c := by
  rw [Finset.sdiff_empty, duties_s, bigSep_singleton, payload_s]
theorem rest_r : bigSep ((Rd (F := F) m ρ).duties (rC j k c) 0 \ ∅) (fun d => (Rd (F := F) m ρ).payload (rC j k c) 0 d) = recvPay m ρ j k c := by
  rw [Finset.sdiff_empty, duties_r, bigSep_singleton, payload_r]

end Sched

/-! ## What is owed, and the levels -/

/-- The transfers, phase and chain, in program order. -/
def order : List (Fin 4 × Fin 4) :=
  [(0, 0), (0, 2), (0, 1), (0, 3), (1, 0), (1, 2), (1, 1), (1, 3), (2, 0), (2, 2), (2, 1), (2, 3), (3, 0), (3, 2), (3, 1), (3, 3)]

/-- What device `c` owes its partners' receive cells while the transfers `l` are still to start. -/
def owedL (c : Dev nD) : List (Fin 4 × Fin 4) → CellTallies nD τ sig Unit
  | [] => 0
  | jk :: l => owedL c l + tallyAt (rC jk.1 jk.2 (peer jk.1 jk.2 c)) () (amt jk.1)
/-- What device `c` owes before its first signal, and after it. -/
def O₁ (c : Dev nD) : CellTallies nD τ sig Unit := owedL c order + tallyAt (barC (acrossB c)) () 1
def O₀ (c : Dev nD) : CellTallies nD τ sig Unit := O₁ c + tallyAt (barC (acrossA c)) () 1

def L (g : GSem nD τ sig) : Finset Unit := if g.1.2 = .tc then {()} else ∅
/-- The barrier at 1, the receive cells of phase `j` at `2 + j`, the rest at 0. -/
def lvS : SemLoc sig → ℕ
  | .reg _ => 1
  | .dma q => if q.val < 18 then 0 else 2 + (phaseOf q).val
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_r (j k : Fin 4) : lvS (.dma (rS j k)) = 2 + j.val := by revert j k; decide
theorem lvS_s (j k : Fin 4) : lvS (.dma (sS j k)) = 0 := by revert j k; decide

theorem tally_pos {g₀ g : GSem nD τ sig} {u : Unit} {n : ℕ} {O : CellTallies nD τ sig Unit} (h : 0 < (O + tallyAt g₀ () n) g u) :
    0 < O g u ∨ g = g₀ := by
  rw [Pi.add_apply, Finsupp.add_apply, tallyAt_apply] at h
  by_cases hg : g = g₀ ∧ u = ()
  · exact .inr hg.1
  · rw [if_neg hg] at h; exact .inl h

/-- What is owed is owed to receive cells of transfers still to start. -/
theorem owedL_pos {c : Dev nD} {g : GSem nD τ sig} {u : Unit} : ∀ {l : List (Fin 4 × Fin 4)}, 0 < owedL c l g u →
    ∃ jk ∈ l, g = rC jk.1 jk.2 (peer jk.1 jk.2 c)
  | [], h => absurd h (by unfold owedL; exact Nat.lt_irrefl 0)
  | jk :: l, h => by
    unfold owedL at h
    rcases tally_pos h with h | h
    · obtain ⟨jk', hm, he⟩ := owedL_pos h; exact ⟨jk', List.mem_cons_of_mem _ hm, he⟩
    · exact ⟨jk, List.mem_cons_self, h⟩

/-- A cell may be waited on at a level below those of all transfers still to start. -/
theorem mayWait_owedL (c : Dev nD) (sm : SemLoc sig) (l : List (Fin 4 × Fin 4)) (h : ∀ jk ∈ l, lvS sm < 2 + jk.1.val) :
    (levAts L lv : sProp 𝕄) ⊢ MayWait (c : Thread nD τ) sm () (owedL c l) :=
  MayOwe.of_cut (L := L) (lev := lv) (lvS sm) (fun p hp => by rw [Finset.mem_singleton.mp hp, L_tc]; exact Finset.mem_singleton_self _)
    (fun g u hg => by obtain ⟨jk, -, rfl⟩ := owedL_pos hg; rw [L_tc]; exact Finset.mem_singleton_self _)
    (fun p hp => by rw [Finset.mem_singleton.mp hp]; exact le_rfl)
    (fun g u hg => by obtain ⟨jk, hm, rfl⟩ := owedL_pos hg; show lvS sm < lvS _; rw [lvS_r]; exact h jk hm)

/-- The staging semaphores may be waited on throughout. -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  have hz : lvS (.dma q : SemLoc sig) = 0 := if_pos hq
  rcases hO with rfl | rfl
  · have hp : ∀ g u, 0 < O₀ c g u → (∃ jk ∈ order, g = rC jk.1 jk.2 (peer jk.1 jk.2 c)) ∨ g = barC (acrossB c) ∨ g = barC (acrossA c) := by
      intro g u hg; unfold O₀ at hg
      rcases tally_pos hg with hg | hg
      · unfold O₁ at hg
        rcases tally_pos hg with hg | hg
        · exact .inl (owedL_pos hg)
        · exact .inr (.inl hg)
      · exact .inr (.inr hg)
    refine MayOwe.of_cut (L := L) (lev := lv) 0 (fun p hp => by rw [Finset.mem_singleton.mp hp, L_tc]; exact Finset.mem_singleton_self _)
      (fun g u hg => by rcases hp g u hg with ⟨jk, -, rfl⟩ | rfl | rfl <;> exact Finset.mem_singleton_self _)
      (fun p hp => by rw [Finset.mem_singleton.mp hp]; exact le_of_eq hz)
      (fun g u hg => by
        rcases hp g u hg with ⟨jk, -, rfl⟩ | rfl | rfl
        · show 0 < lvS _; rw [lvS_r]; omega
        · exact Nat.one_pos
        · exact Nat.one_pos)
  · rw [MayWait_zero]; iintro -; iempintro

end Cert.KernelIdeal.Exchange
-- ==== Proof.Ideal.Moves.lean ====
/-
The rules for one transfer: starting it, waiting for what it brings, waiting for its completion. Each is stated once, for any
phase `j` and chain `k`.
-/
module

public import proofs.«01_k».proof.Proof.Ideal.Schedule

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c`'s core runs `p` to a result satisfying `Q`. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The facts every device holds throughout -/

/-- Every cell's invariant, under the names `K`, and that every cell has reached round 0. -/
def records (K : Dev nD × Fin 33 → ℕ) : sProp 𝕄 :=
  iprop((bigSep Finset.univ fun ci : Dev nD × Fin 33 => cellInv ER (Rd m ρ) (K ci) (kcell ci))
    ∗ bigSep Finset.univ fun ci : Dev nD × Fin 33 => reached ER (kcell ci) 0)
instance records_persistent (K : Dev nD × Fin 33 → ℕ) : BI.Persistent (records m ρ K) := by unfold records; infer_instance

/-- The records and the level facts. -/
def facts (K : Dev nD × Fin 33 → ℕ) : sProp 𝕄 := iprop(records m ρ K ∗ levAts L lv)
instance facts_persistent (K : Dev nD × Fin 33 → ℕ) : BI.Persistent (facts m ρ K) := by unfold facts; infer_instance

variable (K : Dev nD × Fin 33 → ℕ)

theorem facts_lev : facts m ρ K ⊢ (levAts L lv : sProp 𝕄) := by unfold facts; iintro ⟨-, H⟩; iexact H
theorem one_of_all {I : Type} [DecidableEq I] [Fintype I] (Φ : I → sProp 𝕄) (i : I) : bigSep Finset.univ Φ ⊢ Φ i := bigSep_elim (Finset.mem_univ i)
theorem facts_inv (ci : Dev nD × Fin 33) {sm : SemLoc sig} (h : csem ci.2 = sm) :
    facts m ρ K ⊢ cellInv ER (Rd m ρ) (K ci) ((ci.1 : Thread nD τ), sm) := by
  subst h; unfold facts records; iintro ⟨⟨H, -⟩, -⟩
  iapply (one_of_all (fun ci : Dev nD × Fin 33 => cellInv ER (Rd m ρ) (K ci) (kcell ci)) ci); iexact H
theorem facts_reached (ci : Dev nD × Fin 33) {sm : SemLoc sig} (h : csem ci.2 = sm) :
    facts m ρ K ⊢ (reached ER ((ci.1 : Thread nD τ), sm) 0 : sProp 𝕄) := by
  subst h; unfold facts records; iintro ⟨⟨-, H⟩, -⟩
  iapply (one_of_all (fun ci : Dev nD × Fin 33 => (reached ER (kcell ci) 0 : sProp 𝕄)) ci); iexact H

/-- The thread's state: the facts, and what it owes while the transfers `l` are still to start. -/
def thr (c : Dev nD) (l : List (Fin 4 × Fin 4)) : sProp 𝕄 :=
  iprop(facts m ρ K ∗ ∃ W, owes (c : Thread nD τ) (owedL c l) W)

/-! ## The tokens of one transfer -/

/-- Before it starts; -/
def tok (j k : Fin 4) (c : Dev nD) : sProp 𝕄 :=
  iprop(dutyTok ER (sC j k c) 0 false ∗ dutyTok ER (rC j k (peer j k c)) 0 false ∗ atPos ER (sC j k c) 0 ∅ 0 ∗ atPos ER (rC j k c) 0 ∅ 0
    ∗ cred (tallyAt (rC j k c) () (amt j)))
/-- once started; -/
def mid (j k : Fin 4) (c : Dev nD) : sProp 𝕄 :=
  iprop(atPos ER (sC j k c) 0 ∅ 0 ∗ cred (tallyAt (sC j k c) () (amt j)) ∗ atPos ER (rC j k c) 0 ∅ 0 ∗ cred (tallyAt (rC j k c) () (amt j)))
/-- once the partner's has landed; -/
def got (j k : Fin 4) (c : Dev nD) : sProp 𝕄 :=
  iprop(atPos ER (sC j k c) 0 ∅ 0 ∗ cred (tallyAt (sC j k c) () (amt j)) ∗ semVal (rC j k c) 0)
/-- and once complete, both counters at zero. -/
def fin (j k : Fin 4) (c : Dev nD) : sProp 𝕄 := iprop(semVal (sC j k c) 0 ∗ semVal (rC j k c) 0)

/-! ## The rules -/

/-- A transfer whose source the send's completion gives back. -/
theorem wp_send (j k : Fin 4) (c n : Dev nD) (l : List (Fin 4 × Fin 4)) (hn : n = peer j k c) {s : Shape}
    {src : Memref sig (c : Thread nD τ).2.kind .vmem s .f32} {dst : Memref sig (Dev.tc n : Thread nD τ).2.kind .vmem s .f32}
    {hsc : dst.view.ref.isScScratch = false} {sa sb : SemLoc sig} (ha : sa = .dma (sS j k)) (hb : sb = .dma (rS j k))
    {hsrc : src.view.WordExact} {hdst : dst.view.WordExact} {hsem : DmaTarget.Typed .vmem sb (.remote (Dev.tc n : Thread nD τ) dst sa hsc)}
    {q : PosShare TreeShare} {fs : Buf (Elt F) (src.view.loc (c : Thread nD τ))} {fd : Buf (Elt F) (dst.view.loc (n : Thread nD τ))}
    (hamt : dst.view.amount sb = amt j)
    (hpay₁ : (src.view.loc (c : Thread nD τ) ↦[src.view.set]{q} fs) ⊢ sendPay m ρ j k c)
    (hpay₂ : (dst.view.loc (n : Thread nD τ) ↦[dst.view.set]{fullShare} (dst.view.write (Elt F) fd (src.view.read (Elt F) fs) Finset.univ))
      ⊢ recvPay m ρ j k n) {α : Type} {Q : α → sProp 𝕄} {kont : PUnit → Prog (TpuEff nD τ sig (Elt F) Λ₀ .tc) α} :
    iprop(thr m ρ K c ((j, k) :: l) ∗ tok j k c ∗ (src.view.loc (c : Thread nD τ) ↦[src.view.set]{q} fs)
        ∗ (dst.view.loc (n : Thread nD τ) ↦[dst.view.set]{fullShare} fd))
      ⊢ iprop(((thr m ρ K c l ∗ mid j k c) -∗ Runs c (kont ⟨⟩) Q)
        -∗ Runs c (.op (.enqueueDma src (.remote (Dev.tc n : Thread nD τ) dst sa hsc) sb hsrc hdst hsem) kont) Q) := by
  subst hn ha hb
  unfold thr tok mid
  iintro ⟨⟨#HF, %W, HO⟩, ⟨HtS, HtR, HaS, HaR, HcR⟩, Hs, Hd⟩ Hk
  iapply (Rounds.wp_send_pointsTo 𝒱₀ ER (Rd m ρ) (c : Thread nD τ) none (κ₁ := K (c, sIx j k)) (κ₂ := K (peer j k c, rIx j k))
    (r₁ := 0) (r₂ := 0) (d₁ := false) (d₂ := false) (fd := fd)
    (by rw [duties_s]; exact Finset.mem_singleton_self _) (by rw [duties_r]; exact Finset.mem_singleton_self _)
    () () (amt j) hamt (amount_s m ρ j k c false) (amount_r m ρ j k (peer j k c) false) (owedL c l) rfl (W := W)
    (by rw [payload_s]; exact hpay₁) (by rw [payload_r]; exact hpay₂)) $$ [HO HtS HtR Hs Hd]
  · isplitr; · iapply (facts_inv m ρ K (c, sIx j k) (csem_sIx j k)); iexact HF
    isplitr; · iapply (facts_inv m ρ K (peer j k c, rIx j k) (csem_rIx j k)); iexact HF
    isplitl [Hs]; · iexact Hs
    isplitl [Hd]; · iexact Hd
    isplitl [HO]; · iexact HO
    isplitl [HtS]; · iexact HtS
    isplitr; · iapply (facts_reached m ρ K (c, sIx j k) (csem_sIx j k)); iexact HF
    isplitl [HtR]; · iexact HtR
    iapply (facts_reached m ρ K (peer j k c, rIx j k) (csem_rIx j k)); iexact HF
  iintro ⟨HcS, HO⟩
  iapply Hk
  isplitl [HO]
  · isplitr; · iexact HF
    iexists W; iexact HO
  iframe

/-- A transfer whose source goes to the receiver with the landing. -/
theorem wp_send_away (j k : Fin 4) (c n : Dev nD) (l : List (Fin 4 × Fin 4)) (hn : n = peer j k c) {s : Shape}
    {src : Memref sig (c : Thread nD τ).2.kind .vmem s .f32} {dst : Memref sig (Dev.tc n : Thread nD τ).2.kind .vmem s .f32}
    {hsc : dst.view.ref.isScScratch = false} {sa sb : SemLoc sig} (ha : sa = .dma (sS j k)) (hb : sb = .dma (rS j k))
    {hsrc : src.view.WordExact} {hdst : dst.view.WordExact} {hsem : DmaTarget.Typed .vmem sb (.remote (Dev.tc n : Thread nD τ) dst sa hsc)}
    {q : PosShare TreeShare} {fs : Buf (Elt F) (src.view.loc (c : Thread nD τ))} {fd : Buf (Elt F) (dst.view.loc (n : Thread nD τ))}
    (hamt : dst.view.amount sb = amt j)
    (hpay₁ : (emp : sProp 𝕄) ⊢ sendPay m ρ j k c)
    (hpay₂ : iprop((dst.view.loc (n : Thread nD τ) ↦[dst.view.set]{fullShare} (dst.view.write (Elt F) fd (src.view.read (Elt F) fs) Finset.univ))
        ∗ (src.view.loc (c : Thread nD τ) ↦[src.view.set]{q} fs)) ⊢ recvPay m ρ j k n) {α : Type} {Q : α → sProp 𝕄} {kont : PUnit → Prog (TpuEff nD τ sig (Elt F) Λ₀ .tc) α} :
    iprop(thr m ρ K c ((j, k) :: l) ∗ tok j k c ∗ (src.view.loc (c : Thread nD τ) ↦[src.view.set]{q} fs)
        ∗ (dst.view.loc (n : Thread nD τ) ↦[dst.view.set]{fullShare} fd))
      ⊢ iprop(((thr m ρ K c l ∗ mid j k c) -∗ Runs c (kont ⟨⟩) Q)
        -∗ Runs c (.op (.enqueueDma src (.remote (Dev.tc n : Thread nD τ) dst sa hsc) sb hsrc hdst hsem) kont) Q) := by
  subst hn ha hb
  unfold thr tok mid
  iintro ⟨⟨#HF, %W, HO⟩, ⟨HtS, HtR, HaS, HaR, HcR⟩, Hs, Hd⟩ Hk
  iapply (Rounds.wp_send_landing_pointsTo 𝒱₀ ER (Rd m ρ) (c : Thread nD τ) none (κ₁ := K (c, sIx j k)) (κ₂ := K (peer j k c, rIx j k))
    (r₁ := 0) (r₂ := 0) (d₁ := false) (d₂ := false) (fd := fd)
    (by rw [duties_s]; exact Finset.mem_singleton_self _) (by rw [duties_r]; exact Finset.mem_singleton_self _)
    () () (amt j) hamt (amount_s m ρ j k c false) (amount_r m ρ j k (peer j k c) false) (owedL c l) rfl (W := W)
    (by rw [payload_s]; exact hpay₁) (by rw [payload_r]; exact hpay₂)) $$ [HO HtS HtR Hs Hd]
  · isplitr; · iapply (facts_inv m ρ K (c, sIx j k) (csem_sIx j k)); iexact HF
    isplitr; · iapply (facts_inv m ρ K (peer j k c, rIx j k) (csem_rIx j k)); iexact HF
    isplitl [Hs]; · iexact Hs
    isplitl [Hd]; · iexact Hd
    isplitl [HO]; · iexact HO
    isplitl [HtS]; · iexact HtS
    isplitr; · iapply (facts_reached m ρ K (c, sIx j k) (csem_sIx j k)); iexact HF
    isplitl [HtR]; · iexact HtR
    iapply (facts_reached m ρ K (peer j k c, rIx j k) (csem_rIx j k)); iexact HF
  iintro ⟨HcS, HO⟩
  iapply Hk
  isplitl [HO]
  · isplitr; · iexact HF
    iexists W; iexact HO
  iframe

/-- Waiting for the partner's transfer: what it brings, and the counter at zero for good. -/
theorem wp_recv (j k : Fin 4) (c : Dev nD) (l : List (Fin 4 × Fin 4)) (hl : ∀ jk ∈ l, 2 + j.val < 2 + jk.1.val) {s : Shape}
    {sp sp' : Space} {src : Memref sig (c : Thread nD τ).2.kind sp s .f32} {dst : Memref sig (c : Thread nD τ).2.kind sp' s .f32}
    {sem : DmaSem sig} (hs : sem = rS j k) {h₁ : src.view.WordExact} {h₂ : dst.view.WordExact} (hamt : dst.view.dmaCredit = amt j) {α : Type} {Q : α → sProp 𝕄} {kont : PUnit → Prog (TpuEff nD τ sig (Elt F) Λ₀ .tc) α} :
    iprop(thr m ρ K c l ∗ mid j k c)
      ⊢ iprop(((thr m ρ K c l ∗ got j k c ∗ recvPay m ρ j k c) -∗ Runs c (kont ⟨⟩) Q)
        -∗ Runs c (.op (.waitDma2 sem src dst h₁ h₂) kont) Q) := by
  subst hs
  unfold thr mid got
  iintro ⟨⟨#HF, %W, HO⟩, HaS, HcS, HaR, HcR⟩ Hk
  iapply (Rounds.wp_wait_rest_token 𝒱₀ ER (Rd m ρ) (c : Thread nD τ) none (κ := K (c, rIx j k))
      (wpE_waitDma2_eq 𝒱₀ (c : Thread nD τ) none Set.univ) (Set.mem_univ _) () (O := owedL c l) (W := W) (R := 0) (m := 0) (T := ∅)
      (by rw [Nat.zero_add, expect_r]; exact hamt)) $$ [HcR HO HaR]
  · isplitr; · iapply (facts_inv m ρ K (c, rIx j k) (csem_rIx j k)); iexact HF
    isplitl [HcR]; · rw [hamt]; iexact HcR
    isplitl [HO]; · iexact HO
    isplitr
    · iapply (mayWait_owedL (F := F) c (.dma (rS j k)) l (by rw [lvS_r]; exact hl)); iapply (facts_lev m ρ K); iexact HF
    iexact HaR
  iintro ⟨HO, HaR, -, Hpay⟩
  ihave Hp := (Entails.of_eq (rest_r m ρ j k c)) $$ Hpay
  imod (Rounds.cell_close ER (Rd m ρ) (Set.mem_univ (K (c, rIx j k))) (fun h => h) (R := 0 + 1) (duties_later m ρ (rC j k c))) $$ [HaR] with HzR
  · isplitr; · iapply (facts_inv m ρ K (c, rIx j k) (csem_rIx j k)); iexact HF
    iexact HaR
  iapply Hk
  isplitl [HO]
  · isplitr; · iexact HF
    iexists _; iexact HO
  iframe

/-- Waiting, all transfers started, for an own transfer's completion. -/
theorem wp_sent (j k : Fin 4) (c : Dev nD) {s : Shape}
    {sp sp' : Space} {src : Memref sig (c : Thread nD τ).2.kind sp s .f32} {dst : Memref sig (c : Thread nD τ).2.kind sp' s .f32}
    {sem : DmaSem sig} (hs : sem = sS j k) {h₁ : src.view.WordExact} {h₂ : dst.view.WordExact} (hamt : dst.view.dmaCredit = amt j) {α : Type} {Q : α → sProp 𝕄} {kont : PUnit → Prog (TpuEff nD τ sig (Elt F) Λ₀ .tc) α} :
    iprop(thr m ρ K c [] ∗ got j k c)
      ⊢ iprop(((thr m ρ K c [] ∗ fin j k c ∗ sendPay m ρ j k c) -∗ Runs c (kont ⟨⟩) Q)
        -∗ Runs c (.op (.waitDma2 sem src dst h₁ h₂) kont) Q) := by
  subst hs
  unfold thr got fin
  iintro ⟨⟨#HF, %W, HO⟩, HaS, HcS, HzR⟩ Hk
  iapply (Rounds.wp_wait_rest_token 𝒱₀ ER (Rd m ρ) (c : Thread nD τ) none (κ := K (c, sIx j k))
      (wpE_waitDma2_eq 𝒱₀ (c : Thread nD τ) none Set.univ) (Set.mem_univ _) () (O := owedL c []) (W := W) (R := 0) (m := 0) (T := ∅)
      (by rw [Nat.zero_add, expect_s]; exact hamt)) $$ [HcS HO HaS]
  · isplitr; · iapply (facts_inv m ρ K (c, sIx j k) (csem_sIx j k)); iexact HF
    isplitl [HcS]; · rw [hamt]; iexact HcS
    isplitl [HO]; · iexact HO
    isplitr
    · iapply (mayWait_owedL (F := F) c (.dma (sS j k)) [] (fun _ h => absurd h List.not_mem_nil)); iapply (facts_lev m ρ K); iexact HF
    iexact HaS
  iintro ⟨HO, HaS, -, Hpay⟩
  ihave Hp := (Entails.of_eq (rest_s m ρ j k c)) $$ Hpay
  imod (Rounds.cell_close ER (Rd m ρ) (Set.mem_univ (K (c, sIx j k))) (fun h => h) (R := 0 + 1) (duties_later m ρ (sC j k c))) $$ [HaS] with HzS
  · isplitr; · iapply (facts_inv m ρ K (c, sIx j k) (csem_sIx j k)); iexact HF
    iexact HaS
  iapply Hk
  isplitl [HO]
  · isplitr; · iexact HF
    iexists _; iexact HO
  iframe

end Cert.KernelIdeal.Exchange
-- ==== Proof.Ideal.Pieces.lean ====
/-
How pieces of the buffers are held: through the views the kernel names, split and joined, read and written.
-/
module

public import proofs.«01_k».proof.Proof.Ideal.Moves

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Views with printed offsets are the named ones -/

section Named
variable {r : ℕ} {k : Fin 4}

theorem xBig_of (h : r ≤ 256) {off : Fin 2 → ℕ} (ho : off = ![r, 128 * k.val]) (inb : ∀ a, off a + S256x128.size a ≤ S512x512.size a) :
    xM.slice (Rect.unit (s := S512x512) off S256x128.size inb) (fun _ => rfl) = xBig r h k := by subst ho; rfl
theorem oBig_of (h : r ≤ 256) {off : Fin 2 → ℕ} (ho : off = ![r, 128 * k.val]) (inb : ∀ a, off a + S256x128.size a ≤ S512x512.size a) :
    oM.slice (Rect.unit (s := S512x512) off S256x128.size inb) (fun _ => rfl) = oBig r h k := by subst ho; rfl
theorem oSmall_of (h : r ≤ 384) {off : Fin 2 → ℕ} (ho : off = ![r, 128 * k.val]) (inb : ∀ a, off a + S128x128.size a ≤ S512x512.size a) :
    oM.slice (Rect.unit (s := S512x512) off S128x128.size inb) (fun _ => rfl) = oSmall r h k := by subst ho; rfl

end Named

/-! ## Held through a view, held as elements -/

section Held
variable (c : Dev nD) (k : Fin 4) (q : PosShare TreeShare)

theorem xBig_pt (r : ℕ) (h : r ≤ 256) (f : FVec F S512x512 .f32) :
    ((xBig r h k).view.loc (c : Thread nD τ) ↦[(xBig r h k).view.set]{q} f : sProp 𝕄) = xPt c (reg r 256 k) q f := by rw [set_xBig]
theorem oBig_pt (r : ℕ) (h : r ≤ 256) (f : FVec F S512x512 .f32) :
    ((oBig r h k).view.loc (c : Thread nD τ) ↦[(oBig r h k).view.set]{q} f : sProp 𝕄) = oPt c (reg r 256 k) q f := by rw [set_oBig]
theorem oSmall_pt (r : ℕ) (h : r ≤ 384) (f : FVec F S512x512 .f32) :
    ((oSmall r h k).view.loc (c : Thread nD τ) ↦[(oSmall r h k).view.set]{q} f : sProp 𝕄) = oPt c (reg r 128 k) q f := by rw [set_oSmall]
theorem slotA_pt (f : FVec F S4x256x128 .f32) :
    ((slotA k).view.loc (c : Thread nD τ) ↦[(slotA k).view.set]{fullShare} f : sProp 𝕄) = aPt c k f := by rw [set_slotA]
theorem slotB_pt (f : FVec F S4x128x128 .f32) :
    ((slotB k).view.loc (c : Thread nD τ) ↦[(slotB k).view.set]{fullShare} f : sProp 𝕄) = bPt c k f := by rw [set_slotB]

end Held

/-! ## Splitting and joining -/

section Split
variable (c : Dev nD) (k : Fin 4) (q : PosShare TreeShare)

theorem xPt_cols (f : FVec F S512x512 .f32) :
    (xPt c (colReg k) q f : sProp 𝕄) ⊣⊢ iprop(xPt c (reg (keep k c) 256 k) q f ∗ xPt c (reg (other k c) 256 k) q f) := by
  rw [← keep_union_other k c]; exact pointsTo_union (keep_other_disjoint k c)
theorem oPt_cols (f : FVec F S512x512 .f32) :
    (oPt c (colReg k) q f : sProp 𝕄) ⊣⊢ iprop(oPt c (reg (keep k c) 256 k) q f ∗ oPt c (reg (other k c) 256 k) q f) := by
  rw [← keep_union_other k c]; exact pointsTo_union (keep_other_disjoint k c)
theorem oPt_keep (f : FVec F S512x512 .f32) :
    (oPt c (reg (keep k c) 256 k) q f : sProp 𝕄) ⊣⊢ iprop(oPt c (reg (own k c) 128 k) q f ∗ oPt c (reg (part k c) 128 k) q f) := by
  rw [← own_union_part k c]; exact pointsTo_union (own_part_disjoint k c)
theorem oPt_halves (S : Finset S512x512.Idx) (f : FVec F S512x512 .f32) :
    (oPt c S fullShare f : sProp 𝕄) ⊣⊢ iprop(oPt c S fullShare.left f ∗ oPt c S fullShare.right f) :=
  pointsTo_share (PosShare.mem_left_op_right fullShare)
theorem colReg_disjoint {k k' : Fin 4} (h : k ≠ k') : Disjoint (colReg k) (colReg k') := reg_disjoint_cols h

theorem xPt_all (f : FVec F S512x512 .f32) :
    ((((c : Thread nD τ).loc cc0_stg0_0) ↦{q} f) : sProp 𝕄) = bigSep Finset.univ fun k => xPt c (colReg k) q f := by
  rw [← pointsTo_biUnion (ℓ := (c : Thread nD τ).loc cc0_stg0_0) Finset.univ colReg (fun k _ k' _ h => colReg_disjoint h)]
  exact congrArg (fun S => (((c : Thread nD τ).loc cc0_stg0_0) ↦[S]{q} f : sProp 𝕄)) biUnion_colReg.symm
theorem oPt_all (f : FVec F S512x512 .f32) :
    ((((c : Thread nD τ).loc cc0_stg1_0) ↦{q} f) : sProp 𝕄) = bigSep Finset.univ fun k => oPt c (colReg k) q f := by
  rw [← pointsTo_biUnion (ℓ := (c : Thread nD τ).loc cc0_stg1_0) Finset.univ colReg (fun k _ k' _ h => colReg_disjoint h)]
  exact congrArg (fun S => (((c : Thread nD τ).loc cc0_stg1_0) ↦[S]{q} f : sProp 𝕄)) biUnion_colReg.symm
theorem aPt_all (f : FVec F S4x256x128 .f32) :
    ((((c : Thread nD τ).loc cc0_scratch0) ↦{fullShare} f) : sProp 𝕄) = bigSep Finset.univ fun k => aPt c k f := by
  rw [← pointsTo_biUnion (ℓ := (c : Thread nD τ).loc cc0_scratch0) Finset.univ (fun k => (rA k).set) (fun k _ k' _ h => slotA_disjoint h)]
  exact congrArg (fun S => (((c : Thread nD τ).loc cc0_scratch0) ↦[S]{fullShare} f : sProp 𝕄)) biUnion_slotA.symm
theorem bPt_all (f : FVec F S4x128x128 .f32) :
    ((((c : Thread nD τ).loc cc0_scratch1) ↦{fullShare} f) : sProp 𝕄) = bigSep Finset.univ fun k => bPt c k f := by
  rw [← pointsTo_biUnion (ℓ := (c : Thread nD τ).loc cc0_scratch1) Finset.univ (fun k => (rB k).set) (fun k _ k' _ h => slotB_disjoint h)]
  exact congrArg (fun S => (((c : Thread nD τ).loc cc0_scratch1) ↦[S]{fullShare} f : sProp 𝕄)) biUnion_slotB.symm

/-- The output's columns, each holding its chain's result, are the output holding the kernel's result. -/
theorem oPt_result :
    (bigSep Finset.univ fun k => oPt c (colReg k) fullShare (OUT m ρ k) : sProp 𝕄) = (((c : Thread nD τ).loc cc0_stg1_0) ↦{fullShare} RES m ρ) := by
  rw [oPt_all]
  exact bigSep_congr fun k _ => pointsTo_congr fun i hi => (RES_col m ρ k hi).symm

end Split

/-! ## Reading and writing -/

section Values
variable {k : Fin 4}

/-- The sum read through a view is the sum of what the view reads. -/
theorem rdX_S1 (c : Dev nD) (r : ℕ) (h : r ≤ 256) :
    rdX r h k (S1 m ρ k c) = addf (rdX r h k (X m ρ c)) (rdX r h k (X m ρ (near k c))) := rfl
theorem rdO_S2 (c : Dev nD) (r : ℕ) (h : r ≤ 384) :
    rdO r h k (S2 m ρ k c) = addf (rdO r h k (S1 m ρ k c)) (rdO r h k (S1 m ρ k (far k c))) := rfl

theorem rdX_row {r r' : ℕ} (e : r = r') (h : r ≤ 256) (h' : r' ≤ 256) (f : FVec F S512x512 .f32) : rdX r h k f = rdX r' h' k f := by subst e; rfl
theorem rdO_row {r r' : ℕ} (e : r = r') (h : r ≤ 384) (h' : r' ≤ 384) (f : FVec F S512x512 .f32) : rdO r h k f = rdO r' h' k f := by subst e; rfl

/-- Writing through a view what it reads of `g` leaves `g` on the view's elements. -/
theorem write_oBig (r : ℕ) (h : r ≤ 256) (f g : FVec F S512x512 .f32) {i : S512x512.Idx} (hi : i ∈ reg r 256 k) :
    (oBig r h k).view.write (Elt F) f (rdX r h k g) Finset.univ i = g i := by
  show (oBig r h k).view.write (Elt F) f ((oBig r h k).view.read (Elt F) g) Finset.univ i = g i
  rw [View.write_read_eq_piecewise, View.setOn_univ, set_oBig]
  exact Finset.piecewise_eq_of_mem _ _ _ hi
theorem write_oSmall (r : ℕ) (h : r ≤ 384) (f g : FVec F S512x512 .f32) {i : S512x512.Idx} (hi : i ∈ reg r 128 k) :
    (oSmall r h k).view.write (Elt F) f (rdO r h k g) Finset.univ i = g i := by
  rw [View.write_read_eq_piecewise, View.setOn_univ, set_oSmall]
  exact Finset.piecewise_eq_of_mem _ _ _ hi

/-- A slot reads what was written through its view. -/
theorem read_slotA (k : Fin 4) (f : FVec F S4x256x128 .f32) (w : FVec F S256x128 .f32) :
    rdA k ((slotA k).view.write (Elt F) f w Finset.univ) = w := View.read_write_univ _ _
theorem read_slotB (k : Fin 4) (f : FVec F S4x128x128 .f32) (w : FVec F S128x128 .f32) :
    rdB k ((slotB k).view.write (Elt F) f w Finset.univ) = w := View.read_write_univ _ _

/-- On the quarter device `c` completes, its sum is the result. -/
theorem rdO_own (c : Dev nD) : rdO (own k c) (own_le k c) k (OUT m ρ k) = rdO (own k c) (own_le k c) k (S2 m ρ k c) := by
  funext x
  show OUT m ρ k ((oSmall (own k c) (own_le k c) k).view.emb x) = S2 m ρ k c ((oSmall (own k c) (own_le k c) k).view.emb x)
  exact OUT_own m ρ k c (by rw [← set_oSmall (own k c) (own_le k c) k]; exact View.emb_mem_set _ x)

/-- Slot `k` of a landing buffer, loaded and cast, is what its view reads. -/
theorem load_slotA (f : FVec F S4x256x128 .f32) (h : S1x256x128.ShapeCasts S256x128) :
    shapeCast S256x128 (aM.view.readAt (Elt F) (rA k).toLoadRect f) h = rdA k f := rfl
theorem load_slotB (f : FVec F S4x128x128 .f32) (h : S1x128x128.ShapeCasts S128x128) :
    shapeCast S128x128 (bM.view.readAt (Elt F) (rB k).toLoadRect f) h = rdB k f := rfl

end Values

theorem peer_zero (k : Fin 4) (c : Dev nD) : peer 0 k c = near k c := rfl
theorem peer_one (k : Fin 4) (c : Dev nD) : peer 1 k c = far k c := rfl
theorem peer_two (k : Fin 4) (c : Dev nD) : peer 2 k c = far k c := rfl
theorem peer_three (k : Fin 4) (c : Dev nD) : peer 3 k c = near k c := rfl

/-! ## What the transfers leave -/

section Landings
variable (k : Fin 4) (c : Dev nD)

/-- The first phase's landing: the near partner's half in slot `k`. -/
theorem land_zero (fd : FVec F S4x256x128 .f32) :
    aPt (near k c) k ((slotA k).view.write (Elt F) fd (rdX (other k c) (other_le k c) k (X m ρ c)) Finset.univ) ⊢ recvPay m ρ 0 k (near k c) := by
  show _ ⊢ aGot m ρ k (near k c)
  unfold aGot
  rw [near_near]
  iintro H
  iexists ((slotA k).view.write (Elt F) fd (rdX (other k c) (other_le k c) k (X m ρ c)) Finset.univ)
  isplitr
  · ipureintro
    exact (read_slotA k fd _).trans (rdX_row (keep_near k c).symm (other_le k c) _ _)
  · iexact H
/-- The second phase's: the far partner's quarter in slot `k`, and that quarter itself. -/
theorem land_one (fd : FVec F S4x128x128 .f32) :
    iprop(bPt (far k c) k ((slotB k).view.write (Elt F) fd (rdO (part k c) (part_le k c) k (S1 m ρ k c)) Finset.univ)
      ∗ oPt c (reg (part k c) 128 k) fullShare (S1 m ρ k c)) ⊢ recvPay m ρ 1 k (far k c) := by
  show _ ⊢ iprop(bGot m ρ k (far k c) ∗ oPt (far k (far k c)) (reg (own k (far k c)) 128 k) fullShare (S1 m ρ k (far k (far k c))))
  unfold bGot
  rw [far_far]
  iintro ⟨H, Ho⟩
  isplitl [H]
  · iexists ((slotB k).view.write (Elt F) fd (rdO (part k c) (part_le k c) k (S1 m ρ k c)) Finset.univ)
    isplitr
    · ipureintro
      exact (read_slotB k fd _).trans (rdO_row (own_far k c).symm (part_le k c) _ _)
    · iexact H
  · rw [own_far]; iexact Ho
/-- The third phase's: the far partner's completed quarter. -/
theorem land_two (fd : FVec F S512x512 .f32) :
    oPt (far k c) (reg (own k c) 128 k) fullShare ((oSmall (own k c) (own_le k c) k).view.write (Elt F) fd (rdO (own k c) (own_le k c) k (OUT m ρ k)) Finset.univ)
      ⊢ recvPay m ρ 2 k (far k c) := by
  show _ ⊢ oPt (far k c) (reg (part k (far k c)) 128 k) fullShare (OUT m ρ k)
  rw [part_far]
  exact Entails.of_eq (pointsTo_congr fun i hi => write_oSmall _ _ _ _ hi)
/-- The last phase's: the near partner's completed half. -/
theorem land_three (fd : FVec F S512x512 .f32) :
    oPt (near k c) (reg (keep k c) 256 k) fullShare ((oBig (keep k c) (keep_le k c) k).view.write (Elt F) fd (rdX (keep k c) (keep_le k c) k (OUT m ρ k)) Finset.univ)
      ⊢ recvPay m ρ 3 k (near k c) := by
  show _ ⊢ oPt (near k c) (reg (other k (near k c)) 256 k) fullShare (OUT m ρ k)
  rw [other_near]
  exact Entails.of_eq (pointsTo_congr fun i hi => write_oBig _ _ _ _ hi)

end Landings

end Cert.KernelIdeal.Exchange
-- ==== Proof.Ideal.Stages.lean ====
/-
One chain's progress. `chain0` to `chain14` are what device `c` holds for chain `k` after each of its fourteen steps; each rule below
takes a chain one step further, whichever chain it is.
-/
module

public import proofs.«01_k».proof.Proof.Ideal.Pieces

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 33 → ℕ)

/-! ## The states of a chain -/

/-- The input's half a chain keeps, and the half it sends. -/
abbrev xKeep (k : Fin 4) (c : Dev nD) : sProp 𝕄 := xPt c (reg (keep k c) 256 k) fullShare (X m ρ c)
abbrev xOther (k : Fin 4) (c : Dev nD) : sProp 𝕄 := xPt c (reg (other k c) 256 k) fullShare (X m ρ c)
/-- The output's half, at any contents. -/
abbrev oAny (k : Fin 4) (c : Dev nD) : sProp 𝕄 := iprop(∃ f, oPt (F := F) c (reg (keep k c) 256 k) fullShare f)
/-- The near partner's slot and output half, and the far partner's slot, at any contents. -/
abbrev aLent (k : Fin 4) (c : Dev nD) : sProp 𝕄 := iprop(∃ f, aPt (F := F) (near k c) k f)
abbrev oLent (k : Fin 4) (c : Dev nD) : sProp 𝕄 := iprop(∃ f, oPt (F := F) (near k c) (reg (keep k c) 256 k) fullShare f)
abbrev bLent (k : Fin 4) (c : Dev nD) : sProp 𝕄 := iprop(∃ f, bPt (F := F) (far k c) k f)

/-! What device `c` holds for chain `k` after each of its fourteen steps. -/

/-- Before the first step, -/
def chain0 (k : Fin 4) (c : Dev nD) : sProp 𝕄 :=
  iprop(tok 0 k c ∗ tok 1 k c ∗ tok 2 k c ∗ tok 3 k c ∗ xKeep m ρ k c ∗ xOther m ρ k c ∗ oAny k c ∗ aLent k c ∗ oLent k c ∗ bLent k c)
/-- the first half sent, -/
def chain1 (k : Fin 4) (c : Dev nD) : sProp 𝕄 :=
  iprop(mid 0 k c ∗ tok 1 k c ∗ tok 2 k c ∗ tok 3 k c ∗ xKeep m ρ k c ∗ oAny k c ∗ oLent k c ∗ bLent k c)
/-- the partner's half landed, -/
def chain2 (k : Fin 4) (c : Dev nD) : sProp 𝕄 :=
  iprop(got 0 k c ∗ tok 1 k c ∗ tok 2 k c ∗ tok 3 k c ∗ xKeep m ρ k c ∗ oAny k c ∗ oLent k c ∗ bLent k c ∗ aGot m ρ k c)
/-- the first sum stored, -/
def chain3 (k : Fin 4) (c : Dev nD) : sProp 𝕄 :=
  iprop(got 0 k c ∗ tok 1 k c ∗ tok 2 k c ∗ tok 3 k c ∗ xKeep m ρ k c ∗ oPt c (reg (keep k c) 256 k) fullShare (S1 m ρ k c) ∗ oLent k c ∗ bLent k c ∗ aGot m ρ k c)
/-- its away quarter sent, -/
def chain4 (k : Fin 4) (c : Dev nD) : sProp 𝕄 :=
  iprop(got 0 k c ∗ mid 1 k c ∗ tok 2 k c ∗ tok 3 k c ∗ xKeep m ρ k c ∗ oPt c (reg (own k c) 128 k) fullShare (S1 m ρ k c) ∗ oLent k c ∗ aGot m ρ k c)
/-- the far partner's quarter landed, -/
def chain5 (k : Fin 4) (c : Dev nD) : sProp 𝕄 :=
  iprop(got 0 k c ∗ got 1 k c ∗ tok 2 k c ∗ tok 3 k c ∗ xKeep m ρ k c ∗ oPt c (reg (own k c) 128 k) fullShare (S1 m ρ k c) ∗ oLent k c ∗ aGot m ρ k c ∗ bGot m ρ k c ∗ oPt (far k c) (reg (own k c) 128 k) fullShare (S1 m ρ k (far k c)))
/-- the second sum stored, -/
def chain6 (k : Fin 4) (c : Dev nD) : sProp 𝕄 :=
  iprop(got 0 k c ∗ got 1 k c ∗ tok 2 k c ∗ tok 3 k c ∗ xKeep m ρ k c ∗ oPt c (reg (own k c) 128 k) fullShare (OUT m ρ k) ∗ oLent k c ∗ aGot m ρ k c ∗ bGot m ρ k c ∗ oPt (far k c) (reg (own k c) 128 k) fullShare (S1 m ρ k (far k c)))
/-- the completed quarter sent, -/
def chain7 (k : Fin 4) (c : Dev nD) : sProp 𝕄 :=
  iprop(got 0 k c ∗ got 1 k c ∗ mid 2 k c ∗ tok 3 k c ∗ xKeep m ρ k c ∗ oPt c (reg (own k c) 128 k) fullShare.right (OUT m ρ k) ∗ oLent k c ∗ aGot m ρ k c ∗ bGot m ρ k c)
/-- the far partner's completed quarter landed, -/
def chain8 (k : Fin 4) (c : Dev nD) : sProp 𝕄 :=
  iprop(got 0 k c ∗ got 1 k c ∗ got 2 k c ∗ tok 3 k c ∗ xKeep m ρ k c ∗ oPt c (reg (own k c) 128 k) fullShare.right (OUT m ρ k) ∗ oLent k c ∗ aGot m ρ k c ∗ bGot m ρ k c ∗ oPt c (reg (part k c) 128 k) fullShare (OUT m ρ k))
/-- the completed half sent, -/
def chain9 (k : Fin 4) (c : Dev nD) : sProp 𝕄 :=
  iprop(got 0 k c ∗ got 1 k c ∗ got 2 k c ∗ mid 3 k c ∗ xKeep m ρ k c ∗ aGot m ρ k c ∗ bGot m ρ k c ∗ oPt c (reg (part k c) 128 k) fullShare.left (OUT m ρ k))
/-- the near partner's completed half landed, -/
def chain10 (k : Fin 4) (c : Dev nD) : sProp 𝕄 :=
  iprop(got 0 k c ∗ got 1 k c ∗ got 2 k c ∗ got 3 k c ∗ xKeep m ρ k c ∗ aGot m ρ k c ∗ bGot m ρ k c ∗ oPt c (reg (part k c) 128 k) fullShare.left (OUT m ρ k) ∗ oPt c (reg (other k c) 256 k) fullShare (OUT m ρ k))
/-- and the four sends complete, one, -/
def chain11 (k : Fin 4) (c : Dev nD) : sProp 𝕄 :=
  iprop(fin 0 k c ∗ got 1 k c ∗ got 2 k c ∗ got 3 k c ∗ xKeep m ρ k c ∗ xOther m ρ k c ∗ aGot m ρ k c ∗ bGot m ρ k c ∗ oPt c (reg (part k c) 128 k) fullShare.left (OUT m ρ k) ∗ oPt c (reg (other k c) 256 k) fullShare (OUT m ρ k))
/-- two, -/
def chain12 (k : Fin 4) (c : Dev nD) : sProp 𝕄 :=
  iprop(fin 0 k c ∗ fin 1 k c ∗ got 2 k c ∗ got 3 k c ∗ xKeep m ρ k c ∗ xOther m ρ k c ∗ aGot m ρ k c ∗ bGot m ρ k c ∗ oPt c (reg (part k c) 128 k) fullShare.left (OUT m ρ k) ∗ oPt c (reg (other k c) 256 k) fullShare (OUT m ρ k))
/-- three, -/
def chain13 (k : Fin 4) (c : Dev nD) : sProp 𝕄 :=
  iprop(fin 0 k c ∗ fin 1 k c ∗ fin 2 k c ∗ got 3 k c ∗ xKeep m ρ k c ∗ xOther m ρ k c ∗ aGot m ρ k c ∗ bGot m ρ k c ∗ oPt c (reg (part k c) 128 k) fullShare.left (OUT m ρ k) ∗ oPt c (reg (other k c) 256 k) fullShare (OUT m ρ k) ∗ oPt c (reg (own k c) 128 k) fullShare.left (OUT m ρ k))
/-- four: the whole of the chain's columns are back. -/
def chain14 (k : Fin 4) (c : Dev nD) : sProp 𝕄 :=
  iprop(fin 0 k c ∗ fin 1 k c ∗ fin 2 k c ∗ fin 3 k c ∗ xPt c (colReg k) fullShare (X m ρ c) ∗ aGot m ρ k c ∗ bGot m ρ k c ∗ oPt c (colReg k) fullShare (OUT m ρ k))

variable (k : Fin 4) (c : Dev nD) (l : List (Fin 4 × Fin 4))

/-! ## The sends -/

/-- The first send: the other half of the input into the near partner's slot. -/
theorem st_send0 {n : Dev nD} (hn : n = near k c)
    {src : Memref sig (c : Thread nD τ).2.kind .vmem S256x128 .f32} {dst : Memref sig (Dev.tc n : Thread nD τ).2.kind .vmem S256x128 .f32}
    (hs : src = xBig (other k c) (other_le k c) k) (hd : dst = slotA k) {hsc : dst.view.ref.isScScratch = false}
    {sa sb : SemLoc sig} (ha : sa = .dma (sS 0 k)) (hb : sb = .dma (rS 0 k))
    {hsrc : src.view.WordExact} {hdst : dst.view.WordExact} {hsem : DmaTarget.Typed .vmem sb (.remote (Dev.tc n : Thread nD τ) dst sa hsc)}
    {α : Type} {Q : α → sProp 𝕄} {kont : PUnit → Prog (TpuEff nD τ sig (Elt F) Λ₀ .tc) α} :
    iprop(thr m ρ K c ((0, k) :: l) ∗ chain0 m ρ k c)
      ⊢ iprop(((thr m ρ K c l ∗ chain1 m ρ k c) -∗ Runs c (kont ⟨⟩) Q)
        -∗ Runs c (.op (.enqueueDma src (.remote (Dev.tc n : Thread nD τ) dst sa hsc) sb hsrc hdst hsem) kont) Q) := by
  subst hn hs hd hb
  dsimp only [chain0, chain1]
  iintro ⟨Ht, T0, T1, T2, T3, Xk, Xo, Oa, ⟨%fd, Al⟩, Ol, Bl⟩ Hk
  have h1 := Entails.of_eq (xBig_pt c k fullShare (other k c) (other_le k c) (X m ρ c))
  have h2 := (Entails.of_eq (slotA_pt (near k c) k ((slotA k).view.write (Elt F) fd (rdX (other k c) (other_le k c) k (X m ρ c)) Finset.univ))).trans
    (land_zero m ρ k c fd)
  have h := wp_send m ρ K 0 k c (near k c) l (peer_zero k c).symm (src := xBig (other k c) (other_le k c) k) (dst := slotA k)
    (hsc := hsc) (hsrc := hsrc) (hdst := hdst) (hsem := hsem) (q := fullShare) (fs := X m ρ c) (fd := fd) ha rfl rfl h1 h2 (α := α) (Q := Q) (kont := kont)
  rw [slotA_pt, xBig_pt] at h
  iapply h $$ [Ht T0 Xo Al]
  · iframe
  iintro ⟨Ht, M0⟩
  iapply Hk
  iframe

/-- The second: the partial sum's quarter the far partner completes, into that partner's slot, the quarter itself with it. -/
theorem st_send1 {n : Dev nD} (hn : n = far k c)
    {src : Memref sig (c : Thread nD τ).2.kind .vmem S128x128 .f32} {dst : Memref sig (Dev.tc n : Thread nD τ).2.kind .vmem S128x128 .f32}
    (hs : src = oSmall (part k c) (part_le k c) k) (hd : dst = slotB k) {hsc : dst.view.ref.isScScratch = false}
    {sa sb : SemLoc sig} (ha : sa = .dma (sS 1 k)) (hb : sb = .dma (rS 1 k))
    {hsrc : src.view.WordExact} {hdst : dst.view.WordExact} {hsem : DmaTarget.Typed .vmem sb (.remote (Dev.tc n : Thread nD τ) dst sa hsc)}
    {α : Type} {Q : α → sProp 𝕄} {kont : PUnit → Prog (TpuEff nD τ sig (Elt F) Λ₀ .tc) α} :
    iprop(thr m ρ K c ((1, k) :: l) ∗ chain3 m ρ k c)
      ⊢ iprop(((thr m ρ K c l ∗ chain4 m ρ k c) -∗ Runs c (kont ⟨⟩) Q)
        -∗ Runs c (.op (.enqueueDma src (.remote (Dev.tc n : Thread nD τ) dst sa hsc) sb hsrc hdst hsem) kont) Q) := by
  subst hn hs hd hb
  dsimp only [chain3, chain4]
  iintro ⟨Ht, G0, T1, T2, T3, Xk, Ok, Ol, ⟨%fd, Bl⟩, Ag⟩ Hk
  ihave Ok' := (oPt_keep c k fullShare (S1 m ρ k c)).1 $$ Ok
  icases Ok' with ⟨Ow, Op⟩
  have h1 : (emp : sProp 𝕄) ⊢ sendPay m ρ 1 k c := BI.Entails.refl _
  have h2 := (BI.sep_mono (Entails.of_eq (slotB_pt (far k c) k ((slotB k).view.write (Elt F) fd (rdO (part k c) (part_le k c) k (S1 m ρ k c)) Finset.univ)))
    (Entails.of_eq (oSmall_pt c k fullShare (part k c) (part_le k c) (S1 m ρ k c)))).trans (land_one m ρ k c fd)
  have h := wp_send_away m ρ K 1 k c (far k c) l (peer_one k c).symm (src := oSmall (part k c) (part_le k c) k) (dst := slotB k)
    (hsc := hsc) (hsrc := hsrc) (hdst := hdst) (hsem := hsem) (q := fullShare) (fs := S1 m ρ k c) (fd := fd) ha rfl rfl h1 h2 (α := α) (Q := Q) (kont := kont)
  rw [slotB_pt, oSmall_pt] at h
  iapply h $$ [Ht T1 Op Bl]
  · iframe
  iintro ⟨Ht, M1⟩
  iapply Hk
  iframe

/-- The third: the completed quarter to the far partner. -/
theorem st_send2 {n : Dev nD} (hn : n = far k c)
    {src : Memref sig (c : Thread nD τ).2.kind .vmem S128x128 .f32} {dst : Memref sig (Dev.tc n : Thread nD τ).2.kind .vmem S128x128 .f32}
    (hs : src = oSmall (own k c) (own_le k c) k) (hd : dst = oSmall (own k c) (own_le k c) k) {hsc : dst.view.ref.isScScratch = false}
    {sa sb : SemLoc sig} (ha : sa = .dma (sS 2 k)) (hb : sb = .dma (rS 2 k))
    {hsrc : src.view.WordExact} {hdst : dst.view.WordExact} {hsem : DmaTarget.Typed .vmem sb (.remote (Dev.tc n : Thread nD τ) dst sa hsc)}
    {α : Type} {Q : α → sProp 𝕄} {kont : PUnit → Prog (TpuEff nD τ sig (Elt F) Λ₀ .tc) α} :
    iprop(thr m ρ K c ((2, k) :: l) ∗ chain6 m ρ k c)
      ⊢ iprop(((thr m ρ K c l ∗ chain7 m ρ k c) -∗ Runs c (kont ⟨⟩) Q)
        -∗ Runs c (.op (.enqueueDma src (.remote (Dev.tc n : Thread nD τ) dst sa hsc) sb hsrc hdst hsem) kont) Q) := by
  subst hn hs hd hb
  dsimp only [chain6, chain7]
  iintro ⟨Ht, G0, G1, T2, T3, Xk, Ow, Ol, Ag, Bg, Of⟩ Hk
  ihave Ow' := (oPt_halves c (reg (own k c) 128 k) (OUT m ρ k)).1 $$ Ow
  icases Ow' with ⟨Owl, Owr⟩
  have h1 := Entails.of_eq (oSmall_pt c k fullShare.left (own k c) (own_le k c) (OUT m ρ k))
  have h2 := (Entails.of_eq (oSmall_pt (far k c) k fullShare (own k c) (own_le k c)
    ((oSmall (own k c) (own_le k c) k).view.write (Elt F) (S1 m ρ k (far k c)) (rdO (own k c) (own_le k c) k (OUT m ρ k)) Finset.univ))).trans (land_two m ρ k c _)
  have h := wp_send m ρ K 2 k c (far k c) l (peer_two k c).symm (src := oSmall (own k c) (own_le k c) k) (dst := oSmall (own k c) (own_le k c) k)
    (hsc := hsc) (hsrc := hsrc) (hdst := hdst) (hsem := hsem) (q := fullShare.left) (fs := OUT m ρ k) (fd := S1 m ρ k (far k c)) ha rfl rfl h1 h2 (α := α) (Q := Q) (kont := kont)
  rw [oSmall_pt, oSmall_pt] at h
  iapply h $$ [Ht T2 Owl Of]
  · iframe
  iintro ⟨Ht, M2⟩
  iapply Hk
  iframe

/-- The fourth: the completed half to the near partner. -/
theorem st_send3 {n : Dev nD} (hn : n = near k c)
    {src : Memref sig (c : Thread nD τ).2.kind .vmem S256x128 .f32} {dst : Memref sig (Dev.tc n : Thread nD τ).2.kind .vmem S256x128 .f32}
    (hs : src = oBig (keep k c) (keep_le k c) k) (hd : dst = oBig (keep k c) (keep_le k c) k) {hsc : dst.view.ref.isScScratch = false}
    {sa sb : SemLoc sig} (ha : sa = .dma (sS 3 k)) (hb : sb = .dma (rS 3 k))
    {hsrc : src.view.WordExact} {hdst : dst.view.WordExact} {hsem : DmaTarget.Typed .vmem sb (.remote (Dev.tc n : Thread nD τ) dst sa hsc)}
    {α : Type} {Q : α → sProp 𝕄} {kont : PUnit → Prog (TpuEff nD τ sig (Elt F) Λ₀ .tc) α} :
    iprop(thr m ρ K c ((3, k) :: l) ∗ chain8 m ρ k c)
      ⊢ iprop(((thr m ρ K c l ∗ chain9 m ρ k c) -∗ Runs c (kont ⟨⟩) Q)
        -∗ Runs c (.op (.enqueueDma src (.remote (Dev.tc n : Thread nD τ) dst sa hsc) sb hsrc hdst hsem) kont) Q) := by
  subst hn hs hd hb
  dsimp only [chain8, chain9]
  iintro ⟨Ht, G0, G1, G2, T3, Xk, Owr, ⟨%fd, Ol⟩, Ag, Bg, Op⟩ Hk
  ihave Op' := (oPt_halves c (reg (part k c) 128 k) (OUT m ρ k)).1 $$ Op
  icases Op' with ⟨Opl, Opr⟩
  ihave Ok := (oPt_keep c k fullShare.right (OUT m ρ k)).2 $$ [Owr Opr]
  · isplitl [Owr] <;> iassumption
  have h1 := Entails.of_eq (oBig_pt c k fullShare.right (keep k c) (keep_le k c) (OUT m ρ k))
  have h2 := (Entails.of_eq (oBig_pt (near k c) k fullShare (keep k c) (keep_le k c)
    ((oBig (keep k c) (keep_le k c) k).view.write (Elt F) fd (rdX (keep k c) (keep_le k c) k (OUT m ρ k)) Finset.univ))).trans (land_three m ρ k c _)
  have h := wp_send m ρ K 3 k c (near k c) l (peer_three k c).symm (src := oBig (keep k c) (keep_le k c) k) (dst := oBig (keep k c) (keep_le k c) k)
    (hsc := hsc) (hsrc := hsrc) (hdst := hdst) (hsem := hsem) (q := fullShare.right) (fs := OUT m ρ k) (fd := fd) ha rfl rfl h1 h2 (α := α) (Q := Q) (kont := kont)
  rw [oBig_pt, oBig_pt] at h
  iapply h $$ [Ht T3 Ok Ol]
  · iframe
  iintro ⟨Ht, M3⟩
  iapply Hk
  iframe

/-! ## The waits -/

section Waits
variable {c} {s : Shape} {sp sp' : Space} {src : Memref sig (c : Thread nD τ).2.kind sp s .f32} {dst : Memref sig (c : Thread nD τ).2.kind sp' s .f32}
  {sem : DmaSem sig} {h₁ : src.view.WordExact} {h₂ : dst.view.WordExact}

/-- The first landing. -/
theorem st_wait0 (hs : sem = rS 0 k) (hamt : dst.view.dmaCredit = NA) (hl : ∀ jk ∈ l, (0 : Fin 4).val < jk.1.val)
    {α : Type} {Q : α → sProp 𝕄} {kont : PUnit → Prog (TpuEff nD τ sig (Elt F) Λ₀ .tc) α} :
    iprop(thr m ρ K c l ∗ chain1 m ρ k c)
      ⊢ iprop(((thr m ρ K c l ∗ chain2 m ρ k c) -∗ Runs c (kont ⟨⟩) Q) -∗ Runs c (.op (.waitDma2 sem src dst h₁ h₂) kont) Q) := by
  dsimp only [chain1, chain2]
  iintro ⟨Ht, M0, HR⟩ Hk
  iapply (wp_recv m ρ K 0 k c l (fun jk h => Nat.add_lt_add_left (hl jk h) 2) hs hamt) $$ [Ht M0]
  · isplitl [Ht] <;> iassumption
  iintro ⟨Ht, G0, Hp⟩
  icases HR with ⟨T1, T2, T3, Xk, Oa, Ol, Bl⟩
  iapply Hk
  ihave Ag := (show recvPay m ρ 0 k c ⊢ aGot m ρ k c from BI.Entails.refl _) $$ Hp
  iframe
/-- The second. -/
theorem st_wait1 (hs : sem = rS 1 k) (hamt : dst.view.dmaCredit = NB) (hl : ∀ jk ∈ l, (1 : Fin 4).val < jk.1.val)
    {α : Type} {Q : α → sProp 𝕄} {kont : PUnit → Prog (TpuEff nD τ sig (Elt F) Λ₀ .tc) α} :
    iprop(thr m ρ K c l ∗ chain4 m ρ k c)
      ⊢ iprop(((thr m ρ K c l ∗ chain5 m ρ k c) -∗ Runs c (kont ⟨⟩) Q) -∗ Runs c (.op (.waitDma2 sem src dst h₁ h₂) kont) Q) := by
  dsimp only [chain4, chain5]
  iintro ⟨Ht, G0, M1, HR⟩ Hk
  iapply (wp_recv m ρ K 1 k c l (fun jk h => Nat.add_lt_add_left (hl jk h) 2) hs hamt) $$ [Ht M1]
  · isplitl [Ht] <;> iassumption
  iintro ⟨Ht, G1, Hp⟩
  icases HR with ⟨T2, T3, Xk, Ow, Ol, Ag⟩
  iapply Hk
  ihave Hp' := (show recvPay m ρ 1 k c ⊢ iprop(bGot m ρ k c ∗ oPt (far k c) (reg (own k c) 128 k) fullShare (S1 m ρ k (far k c))) from BI.Entails.refl _) $$ Hp
  icases Hp' with ⟨Bg, Of⟩
  iframe
/-- The third. -/
theorem st_wait2 (hs : sem = rS 2 k) (hamt : dst.view.dmaCredit = NB) (hl : ∀ jk ∈ l, (2 : Fin 4).val < jk.1.val)
    {α : Type} {Q : α → sProp 𝕄} {kont : PUnit → Prog (TpuEff nD τ sig (Elt F) Λ₀ .tc) α} :
    iprop(thr m ρ K c l ∗ chain7 m ρ k c)
      ⊢ iprop(((thr m ρ K c l ∗ chain8 m ρ k c) -∗ Runs c (kont ⟨⟩) Q) -∗ Runs c (.op (.waitDma2 sem src dst h₁ h₂) kont) Q) := by
  dsimp only [chain7, chain8]
  iintro ⟨Ht, G0, G1, M2, HR⟩ Hk
  iapply (wp_recv m ρ K 2 k c l (fun jk h => Nat.add_lt_add_left (hl jk h) 2) hs hamt) $$ [Ht M2]
  · isplitl [Ht] <;> iassumption
  iintro ⟨Ht, G2, Hp⟩
  icases HR with ⟨T3, Xk, Owr, Ol, Ag, Bg⟩
  iapply Hk
  ihave Op := (show recvPay m ρ 2 k c ⊢ oPt c (reg (part k c) 128 k) fullShare (OUT m ρ k) from BI.Entails.refl _) $$ Hp
  iframe
/-- The fourth. -/
theorem st_wait3 (hs : sem = rS 3 k) (hamt : dst.view.dmaCredit = NA) (hl : ∀ jk ∈ l, (3 : Fin 4).val < jk.1.val)
    {α : Type} {Q : α → sProp 𝕄} {kont : PUnit → Prog (TpuEff nD τ sig (Elt F) Λ₀ .tc) α} :
    iprop(thr m ρ K c l ∗ chain9 m ρ k c)
      ⊢ iprop(((thr m ρ K c l ∗ chain10 m ρ k c) -∗ Runs c (kont ⟨⟩) Q) -∗ Runs c (.op (.waitDma2 sem src dst h₁ h₂) kont) Q) := by
  dsimp only [chain9, chain10]
  iintro ⟨Ht, G0, G1, G2, M3, HR⟩ Hk
  iapply (wp_recv m ρ K 3 k c l (fun jk h => Nat.add_lt_add_left (hl jk h) 2) hs hamt) $$ [Ht M3]
  · isplitl [Ht] <;> iassumption
  iintro ⟨Ht, G3, Hp⟩
  icases HR with ⟨Xk, Ag, Bg, Opl⟩
  iapply Hk
  ihave Oo := (show recvPay m ρ 3 k c ⊢ oPt c (reg (other k c) 256 k) fullShare (OUT m ρ k) from BI.Entails.refl _) $$ Hp
  iframe

/-- The first send's completion. -/
theorem st_sent0 (hs : sem = sS 0 k) (hamt : dst.view.dmaCredit = NA)
    {α : Type} {Q : α → sProp 𝕄} {kont : PUnit → Prog (TpuEff nD τ sig (Elt F) Λ₀ .tc) α} :
    iprop(thr m ρ K c [] ∗ chain10 m ρ k c)
      ⊢ iprop(((thr m ρ K c [] ∗ chain11 m ρ k c) -∗ Runs c (kont ⟨⟩) Q) -∗ Runs c (.op (.waitDma2 sem src dst h₁ h₂) kont) Q) := by
  dsimp only [chain10, chain11]
  iintro ⟨Ht, G0, HR⟩ Hk
  iapply (wp_sent m ρ K 0 k c hs hamt) $$ [Ht G0]
  · isplitl [Ht] <;> iassumption
  iintro ⟨Ht, F0, Hp⟩
  icases HR with ⟨G1, G2, G3, Xk, Ag, Bg, Opl, Oo⟩
  iapply Hk
  ihave Xo := (show sendPay m ρ 0 k c ⊢ xOther m ρ k c from BI.Entails.refl _) $$ Hp
  iframe
/-- The second's. -/
theorem st_sent1 (hs : sem = sS 1 k) (hamt : dst.view.dmaCredit = NB)
    {α : Type} {Q : α → sProp 𝕄} {kont : PUnit → Prog (TpuEff nD τ sig (Elt F) Λ₀ .tc) α} :
    iprop(thr m ρ K c [] ∗ chain11 m ρ k c)
      ⊢ iprop(((thr m ρ K c [] ∗ chain12 m ρ k c) -∗ Runs c (kont ⟨⟩) Q) -∗ Runs c (.op (.waitDma2 sem src dst h₁ h₂) kont) Q) := by
  dsimp only [chain11, chain12]
  iintro ⟨Ht, F0, G1, HR⟩ Hk
  iapply (wp_sent m ρ K 1 k c hs hamt) $$ [Ht G1]
  · isplitl [Ht] <;> iassumption
  iintro ⟨Ht, F1, -⟩
  iapply Hk
  iframe
/-- The third's. -/
theorem st_sent2 (hs : sem = sS 2 k) (hamt : dst.view.dmaCredit = NB)
    {α : Type} {Q : α → sProp 𝕄} {kont : PUnit → Prog (TpuEff nD τ sig (Elt F) Λ₀ .tc) α} :
    iprop(thr m ρ K c [] ∗ chain12 m ρ k c)
      ⊢ iprop(((thr m ρ K c [] ∗ chain13 m ρ k c) -∗ Runs c (kont ⟨⟩) Q) -∗ Runs c (.op (.waitDma2 sem src dst h₁ h₂) kont) Q) := by
  dsimp only [chain12, chain13]
  iintro ⟨Ht, F0, F1, G2, HR⟩ Hk
  iapply (wp_sent m ρ K 2 k c hs hamt) $$ [Ht G2]
  · isplitl [Ht] <;> iassumption
  iintro ⟨Ht, F2, Hp⟩
  icases HR with ⟨G3, Xk, Xo, Ag, Bg, Opl, Oo⟩
  iapply Hk
  ihave Owl := (show sendPay m ρ 2 k c ⊢ oPt c (reg (own k c) 128 k) fullShare.left (OUT m ρ k) from BI.Entails.refl _) $$ Hp
  iframe
/-- The fourth's: the whole of the chain's columns of the input and of the output are back. -/
theorem st_sent3 (hs : sem = sS 3 k) (hamt : dst.view.dmaCredit = NA)
    {α : Type} {Q : α → sProp 𝕄} {kont : PUnit → Prog (TpuEff nD τ sig (Elt F) Λ₀ .tc) α} :
    iprop(thr m ρ K c [] ∗ chain13 m ρ k c)
      ⊢ iprop(((thr m ρ K c [] ∗ chain14 m ρ k c) -∗ Runs c (kont ⟨⟩) Q) -∗ Runs c (.op (.waitDma2 sem src dst h₁ h₂) kont) Q) := by
  dsimp only [chain13, chain14]
  iintro ⟨Ht, F0, F1, F2, G3, HR⟩ Hk
  iapply (wp_sent m ρ K 3 k c hs hamt) $$ [Ht G3]
  · isplitl [Ht] <;> iassumption
  iintro ⟨Ht, F3, Hp⟩
  icases HR with ⟨Xk, Xo, Ag, Bg, Opl, Oo, Owl⟩
  ihave Okr := (show sendPay m ρ 3 k c ⊢ oPt c (reg (keep k c) 256 k) fullShare.right (OUT m ρ k) from BI.Entails.refl _) $$ Hp
  ihave Okl := (oPt_keep c k fullShare.left (OUT m ρ k)).2 $$ [Owl Opl]
  · isplitl [Owl] <;> iassumption
  ihave Ok := (oPt_halves c (reg (keep k c) 256 k) (OUT m ρ k)).2 $$ [Okl Okr]
  · isplitl [Okl] <;> iassumption
  ihave O := (oPt_cols c k fullShare (OUT m ρ k)).2 $$ [Ok Oo]
  · isplitl [Ok] <;> iassumption
  ihave Xc := (xPt_cols c k fullShare (X m ρ c)).2 $$ [Xk Xo]
  · isplitl [Xk] <;> iassumption
  iapply Hk
  iframe

end Waits

/-! ## The loads and the stores -/

section Loads
variable {off : Fin 2 → ℕ}

/-- The kept half of the input is loaded, -/
theorem st_loadX (ho : off = ![keep k c, 128 * k.val]) {inb : ∀ a, off a + S256x128.size a ≤ S512x512.size a}
    {hl : xM.view.LoadsAt (Rect.unit (s := S512x512) off S256x128.size inb).toLoadRect}
    {α : Type} {Q : α → sProp 𝕄} {kont : ((Rect.unit (s := S512x512) off S256x128.size inb).shape.Idx → Elt F .f32) → Prog (TpuEff nD τ sig (Elt F) Λ₀ .tc) α} :
    chain2 m ρ k c ⊢ iprop((chain2 m ρ k c -∗ Runs c (kont (rdX (keep k c) (keep_le k c) k (X m ρ c))) Q)
      -∗ Runs c (.op (.load xM (Rect.unit (s := S512x512) off S256x128.size inb).toLoadRect hl) kont) Q) := by
  subst ho
  dsimp only [chain2]
  iintro ⟨G0, T1, T2, T3, Xk, HR⟩ Hk
  iapply (wp_load 𝒱₀ (c : Thread nD τ) none Set.univ (m := xM) (S := reg (keep k c) 256 k)
    (by rw [← set_xBig (keep k c) (keep_le k c) k]; exact (View.set_slice _ _).symm.subset)) $$ Xk
  iintro Xk
  iapply Hk
  iframe
/-- the landed half, -/
theorem st_loadA {inb : ∀ a, (![k.val, 0, 0] : Fin 3 → ℕ) a + S1x256x128.size a ≤ S4x256x128.size a}
    {hl : aM.view.LoadsAt (Rect.unit (s := S4x256x128) ![k.val, 0, 0] S1x256x128.size inb).toLoadRect}
    {α : Type} {Q : α → sProp 𝕄} {kont : ((Rect.unit (s := S4x256x128) ![k.val, 0, 0] S1x256x128.size inb).shape.Idx → Elt F .f32) → Prog (TpuEff nD τ sig (Elt F) Λ₀ .tc) α} :
    chain2 m ρ k c ⊢ iprop((∀ w : FVec F S1x256x128 .f32, ⌜shapeCast S256x128 w shapeCasts_S1x256x128_S256x128 = rdX (keep k c) (keep_le k c) k (X m ρ (near k c))⌝
        -∗ chain2 m ρ k c -∗ Runs c (kont w) Q)
      -∗ Runs c (.op (.load aM (Rect.unit (s := S4x256x128) ![k.val, 0, 0] S1x256x128.size inb).toLoadRect hl) kont) Q) := by
  dsimp only [chain2, aGot]
  iintro ⟨G0, T1, T2, T3, Xk, Oa, Ol, Bl, ⟨%f, %hf, Ag⟩⟩ Hk
  iapply (wp_load 𝒱₀ (c : Thread nD τ) none Set.univ (m := aM) (S := (rA k).set)
    (by rw [← set_slotA k, set_slotA k]; exact (View.set_slice_whole _ _ ▸ View.set_slice (aM.view) (rA k)).symm.subset)) $$ Ag
  iintro Ag
  iapply Hk
  · ipureintro; exact hf
  iframe
  iexists f
  iframe
  ipureintro; exact hf
/-- and the output's half, unused; -/
theorem st_skip0 (ho : off = ![keep k c, 128 * k.val]) {inb : ∀ a, off a + S256x128.size a ≤ S512x512.size a}
    {hl : oM.view.LoadsAt (Rect.unit (s := S512x512) off S256x128.size inb).toLoadRect}
    {α : Type} {Q : α → sProp 𝕄} {kont : ((Rect.unit (s := S512x512) off S256x128.size inb).shape.Idx → Elt F .f32) → Prog (TpuEff nD τ sig (Elt F) Λ₀ .tc) α} :
    chain2 m ρ k c ⊢ iprop((∀ w : FVec F S256x128 .f32, chain2 m ρ k c -∗ Runs c (kont w) Q)
      -∗ Runs c (.op (.load oM (Rect.unit (s := S512x512) off S256x128.size inb).toLoadRect hl) kont) Q) := by
  subst ho
  dsimp only [chain2]
  iintro ⟨G0, T1, T2, T3, Xk, ⟨%f, Oa⟩, HR⟩ Hk
  iapply (wp_load 𝒱₀ (c : Thread nD τ) none Set.univ (m := oM) (S := reg (keep k c) 256 k)
    (by rw [← set_oBig (keep k c) (keep_le k c) k]; exact (View.set_slice _ _).symm.subset)) $$ Oa
  iintro Oa
  iapply Hk
  iframe
  iexists f
  iexact Oa
/-- their sum is stored. -/
theorem st_store0 (ho : off = ![keep k c, 128 * k.val]) {inb : ∀ a, off a + S256x128.size a ≤ S512x512.size a} {w : FVec F S256x128 .f32}
    (hw : w = addf (rdX (keep k c) (keep_le k c) k (X m ρ c)) (rdX (keep k c) (keep_le k c) k (X m ρ (near k c))))
    {hx : (oM.access (Rect.unit (s := S512x512) off S256x128.size inb)).Stores Finset.univ} {hm}
    {α : Type} {Q : α → sProp 𝕄} {kont : PUnit → Prog (TpuEff nD τ sig (Elt F) Λ₀ .tc) α} :
    chain2 m ρ k c ⊢ iprop((chain3 m ρ k c -∗ Runs c (kont ⟨⟩) Q)
      -∗ Runs c (.op (.store oM (Rect.unit (s := S512x512) off S256x128.size inb) w Finset.univ hx hm) kont) Q) := by
  subst ho
  rw [← rdX_S1] at hw
  subst hw
  dsimp only [chain2, chain3]
  iintro ⟨G0, T1, T2, T3, Xk, ⟨%f, Oa⟩, HR⟩ Hk
  iapply (wp_store 𝒱₀ (c : Thread nD τ) none Set.univ (m := oM) (r := rBig (keep k c) (keep_le k c) k) (Mk := Finset.univ) (S := reg (keep k c) 256 k)
    (by rw [← set_oBig (keep k c) (keep_le k c) k]; exact subset_rfl)) $$ Oa
  iintro Oa
  ihave Ok := (Entails.of_eq (pointsTo_congr (g := S1 m ρ k c) fun i hi => write_oBig (keep k c) (keep_le k c) f (S1 m ρ k c) hi)) $$ Oa
  iapply Hk
  iframe

/-- The completed quarter's partial sum is loaded, -/
theorem st_loadO (ho : off = ![own k c, 128 * k.val]) {inb : ∀ a, off a + S128x128.size a ≤ S512x512.size a}
    {hl : oM.view.LoadsAt (Rect.unit (s := S512x512) off S128x128.size inb).toLoadRect}
    {α : Type} {Q : α → sProp 𝕄} {kont : ((Rect.unit (s := S512x512) off S128x128.size inb).shape.Idx → Elt F .f32) → Prog (TpuEff nD τ sig (Elt F) Λ₀ .tc) α} :
    chain5 m ρ k c ⊢ iprop((chain5 m ρ k c -∗ Runs c (kont (rdO (own k c) (own_le k c) k (S1 m ρ k c))) Q)
      -∗ Runs c (.op (.load oM (Rect.unit (s := S512x512) off S128x128.size inb).toLoadRect hl) kont) Q) := by
  subst ho
  dsimp only [chain5]
  iintro ⟨G0, G1, T2, T3, Xk, Ow, HR⟩ Hk
  iapply (wp_load 𝒱₀ (c : Thread nD τ) none Set.univ (m := oM) (S := reg (own k c) 128 k)
    (by rw [← set_oSmall (own k c) (own_le k c) k]; exact (View.set_slice _ _).symm.subset)) $$ Ow
  iintro Ow
  iapply Hk
  iframe
/-- the landed quarter, -/
theorem st_loadB {inb : ∀ a, (![k.val, 0, 0] : Fin 3 → ℕ) a + S1x128x128.size a ≤ S4x128x128.size a}
    {hl : bM.view.LoadsAt (Rect.unit (s := S4x128x128) ![k.val, 0, 0] S1x128x128.size inb).toLoadRect}
    {α : Type} {Q : α → sProp 𝕄} {kont : ((Rect.unit (s := S4x128x128) ![k.val, 0, 0] S1x128x128.size inb).shape.Idx → Elt F .f32) → Prog (TpuEff nD τ sig (Elt F) Λ₀ .tc) α} :
    chain5 m ρ k c ⊢ iprop((∀ w : FVec F S1x128x128 .f32, ⌜shapeCast S128x128 w shapeCasts_S1x128x128_S128x128 = rdO (own k c) (own_le k c) k (S1 m ρ k (far k c))⌝
        -∗ chain5 m ρ k c -∗ Runs c (kont w) Q)
      -∗ Runs c (.op (.load bM (Rect.unit (s := S4x128x128) ![k.val, 0, 0] S1x128x128.size inb).toLoadRect hl) kont) Q) := by
  dsimp only [chain5, bGot]
  iintro ⟨G0, G1, T2, T3, Xk, Ow, Ol, Ag, ⟨%f, %hf, Bg⟩, Of⟩ Hk
  iapply (wp_load 𝒱₀ (c : Thread nD τ) none Set.univ (m := bM) (S := (rB k).set)
    (by rw [← set_slotB k, set_slotB k]; exact (View.set_slice_whole _ _ ▸ View.set_slice (bM.view) (rB k)).symm.subset)) $$ Bg
  iintro Bg
  iapply Hk
  · ipureintro; exact hf
  iframe
  iexists f
  iframe
  ipureintro; exact hf
/-- and their sum is stored. -/
theorem st_store1 (ho : off = ![own k c, 128 * k.val]) {inb : ∀ a, off a + S128x128.size a ≤ S512x512.size a} {w : FVec F S128x128 .f32}
    (hw : w = addf (rdO (own k c) (own_le k c) k (S1 m ρ k c)) (rdO (own k c) (own_le k c) k (S1 m ρ k (far k c))))
    {hx : (oM.access (Rect.unit (s := S512x512) off S128x128.size inb)).Stores Finset.univ} {hm}
    {α : Type} {Q : α → sProp 𝕄} {kont : PUnit → Prog (TpuEff nD τ sig (Elt F) Λ₀ .tc) α} :
    chain5 m ρ k c ⊢ iprop((chain6 m ρ k c -∗ Runs c (kont ⟨⟩) Q)
      -∗ Runs c (.op (.store oM (Rect.unit (s := S512x512) off S128x128.size inb) w Finset.univ hx hm) kont) Q) := by
  subst ho
  rw [← rdO_S2, ← rdO_own] at hw
  subst hw
  dsimp only [chain5, chain6]
  iintro ⟨G0, G1, T2, T3, Xk, Ow, HR⟩ Hk
  iapply (wp_store 𝒱₀ (c : Thread nD τ) none Set.univ (m := oM) (r := rSmall (own k c) (own_le k c) k) (Mk := Finset.univ) (S := reg (own k c) 128 k)
    (by rw [← set_oSmall (own k c) (own_le k c) k]; exact subset_rfl)) $$ Ow
  iintro Ow
  ihave Ok := (Entails.of_eq (pointsTo_congr (g := OUT m ρ k) fun i hi => write_oSmall (own k c) (own_le k c) (S1 m ρ k c) (OUT m ρ k) hi)) $$ Ow
  iapply Hk
  iframe

/-- The first sum, all four operations. -/
theorem st_sum0 (ho : off = ![keep k c, 128 * k.val]) {inb : ∀ a, off a + S256x128.size a ≤ S512x512.size a}
    {inb' : ∀ a, (![k.val, 0, 0] : Fin 3 → ℕ) a + S1x256x128.size a ≤ S4x256x128.size a}
    (pay : FVec F S256x128 .f32 → FVec F S1x256x128 .f32 → FVec F S256x128 .f32)
    (hpay : ∀ v w, pay v w = addf v (shapeCast S256x128 w shapeCasts_S1x256x128_S256x128))
    {hl : xM.view.LoadsAt (Rect.unit (s := S512x512) off S256x128.size inb).toLoadRect}
    {hl' : aM.view.LoadsAt (Rect.unit (s := S4x256x128) ![k.val, 0, 0] S1x256x128.size inb').toLoadRect}
    {hl'' : oM.view.LoadsAt (Rect.unit (s := S512x512) off S256x128.size inb).toLoadRect}
    {hx : (oM.access (Rect.unit (s := S512x512) off S256x128.size inb)).Stores Finset.univ} {hm}
    {α : Type} {Q : α → sProp 𝕄} {kont : PUnit → Prog (TpuEff nD τ sig (Elt F) Λ₀ .tc) α} :
    chain2 m ρ k c ⊢ iprop((chain3 m ρ k c -∗ Runs c (kont ⟨⟩) Q)
      -∗ Runs c (.op (.load xM (Rect.unit (s := S512x512) off S256x128.size inb).toLoadRect hl) fun v : ((Rect.unit (s := S512x512) off S256x128.size inb).shape.Idx → Elt F .f32) =>
          .op (.load aM (Rect.unit (s := S4x256x128) ![k.val, 0, 0] S1x256x128.size inb').toLoadRect hl') fun w : ((Rect.unit (s := S4x256x128) ![k.val, 0, 0] S1x256x128.size inb').shape.Idx → Elt F .f32) =>
          .op (.load oM (Rect.unit (s := S512x512) off S256x128.size inb).toLoadRect hl'') fun _ =>
          .op (.store oM (Rect.unit (s := S512x512) off S256x128.size inb) (pay v w) Finset.univ hx hm) kont) Q) := by
  iintro HC Hk
  iapply (st_loadX m ρ k c ho) $$ HC
  iintro HC
  iapply (st_loadA m ρ k c) $$ HC
  iintro %w %hw HC
  iapply (st_skip0 m ρ k c ho) $$ HC
  iintro %_ HC
  iapply (st_store0 m ρ k c ho (by rw [hpay, hw])) $$ HC
  iintro HC
  iapply Hk
  iexact HC
/-- The second sum, all four operations. -/
theorem st_sum1 (ho : off = ![own k c, 128 * k.val]) {inb : ∀ a, off a + S128x128.size a ≤ S512x512.size a}
    {inb' : ∀ a, (![k.val, 0, 0] : Fin 3 → ℕ) a + S1x128x128.size a ≤ S4x128x128.size a}
    (pay : FVec F S128x128 .f32 → FVec F S1x128x128 .f32 → FVec F S128x128 .f32)
    (hpay : ∀ v w, pay v w = addf v (shapeCast S128x128 w shapeCasts_S1x128x128_S128x128))
    {hl : oM.view.LoadsAt (Rect.unit (s := S512x512) off S128x128.size inb).toLoadRect}
    {hl' : bM.view.LoadsAt (Rect.unit (s := S4x128x128) ![k.val, 0, 0] S1x128x128.size inb').toLoadRect}
    {hl'' : oM.view.LoadsAt (Rect.unit (s := S512x512) off S128x128.size inb).toLoadRect}
    {hx : (oM.access (Rect.unit (s := S512x512) off S128x128.size inb)).Stores Finset.univ} {hm}
    {α : Type} {Q : α → sProp 𝕄} {kont : PUnit → Prog (TpuEff nD τ sig (Elt F) Λ₀ .tc) α} :
    chain5 m ρ k c ⊢ iprop((chain6 m ρ k c -∗ Runs c (kont ⟨⟩) Q)
      -∗ Runs c (.op (.load oM (Rect.unit (s := S512x512) off S128x128.size inb).toLoadRect hl) fun v : ((Rect.unit (s := S512x512) off S128x128.size inb).shape.Idx → Elt F .f32) =>
          .op (.load bM (Rect.unit (s := S4x128x128) ![k.val, 0, 0] S1x128x128.size inb').toLoadRect hl') fun w : ((Rect.unit (s := S4x128x128) ![k.val, 0, 0] S1x128x128.size inb').shape.Idx → Elt F .f32) =>
          .op (.load oM (Rect.unit (s := S512x512) off S128x128.size inb).toLoadRect hl'') fun _ =>
          .op (.store oM (Rect.unit (s := S512x512) off S128x128.size inb) (pay v w) Finset.univ hx hm) kont) Q) := by
  iintro HC Hk
  iapply (st_loadO m ρ k c ho) $$ HC
  iintro HC
  iapply (st_loadB m ρ k c) $$ HC
  iintro %w %hw HC
  iapply (st_loadO m ρ k c ho) $$ HC
  iintro HC
  iapply (st_store1 m ρ k c ho (by rw [hpay, hw])) $$ HC
  iintro HC
  iapply Hk
  iexact HC

end Loads

end Cert.KernelIdeal.Exchange
-- ==== Proof.Ideal.Parts.lean ====
/-
The body, part by part: each part takes the chains it touches from one state to another.
-/
module

public import proofs.«01_k».proof.Proof.Ideal.Stages
public import Idealize.ShloMosaic.Lib.Pipeline.Value

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 33 → ℕ)

/-! ## The tables: which device and which rows each operation names -/

section Tables
variable (c : Dev nD)

theorem dev1 : (⟨k0_dev1 c, k0_dev1_lt c⟩ : Dev nD) = acrossA c := by revert c; decide +kernel
theorem dev2 : (⟨k0_dev2 c, k0_dev2_lt c⟩ : Dev nD) = acrossB c := by revert c; decide +kernel
theorem dev3 : (⟨k0_dev3 c, k0_dev3_lt c⟩ : Dev nD) = near 0 c := by revert c; decide +kernel
theorem dev4 : (⟨k0_dev4 c, k0_dev4_lt c⟩ : Dev nD) = near 2 c := by revert c; decide +kernel
theorem dev5 : (⟨k0_dev5 c, k0_dev5_lt c⟩ : Dev nD) = near 1 c := by revert c; decide +kernel
theorem dev6 : (⟨k0_dev6 c, k0_dev6_lt c⟩ : Dev nD) = near 3 c := by revert c; decide +kernel
theorem dev7 : (⟨k0_dev7 c, k0_dev7_lt c⟩ : Dev nD) = far 0 c := by revert c; decide +kernel
theorem dev8 : (⟨k0_dev8 c, k0_dev8_lt c⟩ : Dev nD) = far 2 c := by revert c; decide +kernel
theorem dev9 : (⟨k0_dev9 c, k0_dev9_lt c⟩ : Dev nD) = far 1 c := by revert c; decide +kernel
theorem dev10 : (⟨k0_dev10 c, k0_dev10_lt c⟩ : Dev nD) = far 3 c := by revert c; decide +kernel
theorem dev11 : (⟨k0_dev11 c, k0_dev11_lt c⟩ : Dev nD) = far 0 c := by revert c; decide +kernel
theorem dev12 : (⟨k0_dev12 c, k0_dev12_lt c⟩ : Dev nD) = far 2 c := by revert c; decide +kernel
theorem dev13 : (⟨k0_dev13 c, k0_dev13_lt c⟩ : Dev nD) = far 1 c := by revert c; decide +kernel
theorem dev14 : (⟨k0_dev14 c, k0_dev14_lt c⟩ : Dev nD) = far 3 c := by revert c; decide +kernel
theorem dev15 : (⟨k0_dev15 c, k0_dev15_lt c⟩ : Dev nD) = near 0 c := by revert c; decide +kernel
theorem dev16 : (⟨k0_dev16 c, k0_dev16_lt c⟩ : Dev nD) = near 2 c := by revert c; decide +kernel
theorem dev17 : (⟨k0_dev17 c, k0_dev17_lt c⟩ : Dev nD) = near 1 c := by revert c; decide +kernel
theorem dev18 : (⟨k0_dev18 c, k0_dev18_lt c⟩ : Dev nD) = near 3 c := by revert c; decide +kernel
theorem off1 : k0_off1 c = ![other 0 c, 128 * (0 : Fin 4).val] := by revert c; decide +kernel
theorem off2 : k0_off2 c = ![other 2 c, 128 * (2 : Fin 4).val] := by revert c; decide +kernel
theorem off3 : k0_off3 c = ![other 1 c, 128 * (1 : Fin 4).val] := by revert c; decide +kernel
theorem off4 : k0_off4 c = ![other 3 c, 128 * (3 : Fin 4).val] := by revert c; decide +kernel
theorem off5 : k0_off5 c = ![keep 0 c, 128 * (0 : Fin 4).val] := by revert c; decide +kernel
theorem off6 : k0_off6 c = ![part 0 c, 128 * (0 : Fin 4).val] := by revert c; decide +kernel
theorem off7 : k0_off7 c = ![keep 2 c, 128 * (2 : Fin 4).val] := by revert c; decide +kernel
theorem off8 : k0_off8 c = ![part 2 c, 128 * (2 : Fin 4).val] := by revert c; decide +kernel
theorem off9 : k0_off9 c = ![keep 1 c, 128 * (1 : Fin 4).val] := by revert c; decide +kernel
theorem off10 : k0_off10 c = ![part 1 c, 128 * (1 : Fin 4).val] := by revert c; decide +kernel
theorem off11 : k0_off11 c = ![keep 3 c, 128 * (3 : Fin 4).val] := by revert c; decide +kernel
theorem off12 : k0_off12 c = ![part 3 c, 128 * (3 : Fin 4).val] := by revert c; decide +kernel
theorem off13 : k0_off13 c = ![own 0 c, 128 * (0 : Fin 4).val] := by revert c; decide +kernel
theorem off14 : k0_off14 c = ![own 0 c, 128 * (0 : Fin 4).val] := by revert c; decide +kernel
theorem off15 : k0_off15 c = ![own 2 c, 128 * (2 : Fin 4).val] := by revert c; decide +kernel
theorem off16 : k0_off16 c = ![own 2 c, 128 * (2 : Fin 4).val] := by revert c; decide +kernel
theorem off17 : k0_off17 c = ![own 1 c, 128 * (1 : Fin 4).val] := by revert c; decide +kernel
theorem off18 : k0_off18 c = ![own 1 c, 128 * (1 : Fin 4).val] := by revert c; decide +kernel
theorem off19 : k0_off19 c = ![own 3 c, 128 * (3 : Fin 4).val] := by revert c; decide +kernel
theorem off20 : k0_off20 c = ![own 3 c, 128 * (3 : Fin 4).val] := by revert c; decide +kernel
theorem off21 : k0_off21 c = ![keep 0 c, 128 * (0 : Fin 4).val] := by revert c; decide +kernel
theorem off22 : k0_off22 c = ![keep 2 c, 128 * (2 : Fin 4).val] := by revert c; decide +kernel
theorem off23 : k0_off23 c = ![keep 1 c, 128 * (1 : Fin 4).val] := by revert c; decide +kernel
theorem off24 : k0_off24 c = ![keep 3 c, 128 * (3 : Fin 4).val] := by revert c; decide +kernel

end Tables

/-! ## The parts of the body -/

variable (c : Dev nD)

/-- The transfers still to start after the first `n`. -/
abbrev todo (n : ℕ) : List (Fin 4 × Fin 4) := order.drop n
/-- A part of the body, applied to its first arguments. -/
abbrev Args (R : Type 1) : Type 1 := (arg0 : Memref sig .tc .vmem S512x512 .f32) → arg0.IsWhole → (arg1 : Memref sig .tc .vmem S512x512 .f32) → arg1.IsWhole
  → (arg2 : Memref sig .tc .vmem S4x256x128 .f32) → arg2.IsWhole → (arg3 : Memref sig .tc .vmem S4x128x128 .f32) → arg3.IsWhole
  → DmaSems sig S16 → DmaSems sig S16 → R
/-- The body's buffers and semaphores. -/
abbrev onArgs {R : Type 1} (p : Args R) : R :=
  p xM (Memref.isWhole_whole _) oM (Memref.isWhole_whole _) aM (Memref.isWhole_whole _) bM (Memref.isWhole_whole _) cc0_scratch2 cc0_scratch3

/-- A value already of the shape. -/
theorem pay5_eq (v : FVec F S128x128 .f32) : k0_pay5 v = v := shapeCast_self v _

/-- The credit of each kind of piece. -/
theorem creditA (k : Fin 4) : (slotA k).view.dmaCredit = NA := rfl
theorem creditB (k : Fin 4) : (slotB k).view.dmaCredit = NB := rfl
theorem creditX (off : Fin 2 → ℕ) (inb : ∀ a, off a + S256x128.size a ≤ S512x512.size a) :
    (xM.slice (Rect.unit (s := S512x512) off S256x128.size inb) (fun _ => rfl)).view.dmaCredit = NA := rfl
theorem creditO (off : Fin 2 → ℕ) (inb : ∀ a, off a + S256x128.size a ≤ S512x512.size a) :
    (oM.slice (Rect.unit (s := S512x512) off S256x128.size inb) (fun _ => rfl)).view.dmaCredit = NA := rfl
theorem creditQ (off : Fin 2 → ℕ) (inb : ∀ a, off a + S128x128.size a ≤ S512x512.size a) :
    (oM.slice (Rect.unit (s := S512x512) off S128x128.size inb) (fun _ => rfl)).view.dmaCredit = NB := rfl

theorem runs_ret {α : Type} (a : α) (Q : α → sProp 𝕄) : Q a ⊢ Runs c (Prog.ret a : Prog (TpuEff nD τ sig (Elt F) Λ₀ .tc) α) Q := by
  rw [Runs, wp_ret]; iintro H; imodintro; iexact H

/-- The first sends of chains 0 and 2; -/
theorem part2_run (v3 v4 v13 v15 v23 v : BitVec 32) :
    iprop(thr m ρ K c (todo 0) ∗ chain0 m ρ 0 c ∗ chain0 m ρ 2 c)
      ⊢ Runs c (onArgs (k0_part2 (F := F)) c v3 v4 v13 v15 v23 v) (fun _ => iprop(thr m ρ K c (todo 2) ∗ chain1 m ρ 0 c ∗ chain1 m ρ 2 c)) := by
  rw [k0_part2_eq_skeleton]; unfold k0_part2_skel
  simp only [Prog.lift, Prog.bind_op, Prog.bind_ret, Prog.pure_eq_ret]
  rw [show todo 0 = (0, 0) :: (0, 2) :: todo 2 from rfl]
  iintro ⟨Ht, H0, H2⟩
  iapply (st_send0 m ρ K 0 c _ (dev3 c) (xBig_of (other_le 0 c) (off1 c) _) rfl rfl rfl) $$ [Ht H0]
  · iframe
  iintro ⟨Ht, H0⟩
  iapply (st_send0 m ρ K 2 c _ (dev4 c) (xBig_of (other_le 2 c) (off2 c) _) rfl rfl rfl) $$ [Ht H2]
  · iframe
  iintro ⟨Ht, H2⟩
  iapply (runs_ret c)
  iframe

/-- of chains 1 and 3, and chain 0's first sum; -/
theorem part3_run (v3 v4 v13 v15 : BitVec 32) :
    iprop(thr m ρ K c (todo 2) ∗ chain0 m ρ 1 c ∗ chain0 m ρ 3 c ∗ chain1 m ρ 0 c)
      ⊢ Runs c (onArgs (k0_part3 (F := F)) c v3 v4 v13 v15) (fun _ => iprop(thr m ρ K c (todo 4) ∗ chain1 m ρ 1 c ∗ chain1 m ρ 3 c ∗ chain3 m ρ 0 c)) := by
  rw [k0_part3_eq_skeleton]; unfold k0_part3_skel
  simp only [Prog.lift, Prog.bind_op, Prog.bind_ret, Prog.pure_eq_ret]
  rw [show todo 2 = (0, 1) :: (0, 3) :: todo 4 from rfl]
  iintro ⟨Ht, H1, H3, H0⟩
  iapply (st_send0 m ρ K 1 c _ (dev5 c) (xBig_of (other_le 1 c) (off3 c) _) rfl rfl rfl) $$ [Ht H1]
  · iframe
  iintro ⟨Ht, H1⟩
  iapply (st_send0 m ρ K 3 c _ (dev6 c) (xBig_of (other_le 3 c) (off4 c) _) rfl rfl rfl) $$ [Ht H3]
  · iframe
  iintro ⟨Ht, H3⟩
  iapply (st_wait0 m ρ K 0 (todo 4) rfl (creditA 0) (by decide)) $$ [Ht H0]
  · iframe
  iintro ⟨Ht, H0⟩
  iapply (st_sum0 m ρ 0 c (off5 c) k0_pay1 (fun v w => congrArg (addf · _) (shapeCast_self v _))) $$ H0
  iintro H0
  iapply (runs_ret c)
  iframe

/-- chain 0's second send, chain 2's first sum and second send; -/
theorem part4_run (v3 v4 v15 v85 v : BitVec 32) :
    iprop(thr m ρ K c (todo 4) ∗ chain3 m ρ 0 c ∗ chain1 m ρ 2 c)
      ⊢ Runs c (onArgs (k0_part4 (F := F)) c v3 v4 v15 v85 v) (fun _ => iprop(thr m ρ K c (todo 6) ∗ chain4 m ρ 0 c ∗ chain4 m ρ 2 c)) := by
  rw [k0_part4_eq_skeleton]; unfold k0_part4_skel
  simp only [Prog.lift, Prog.bind_op, Prog.bind_ret, Prog.pure_eq_ret]
  rw [show todo 4 = (1, 0) :: (1, 2) :: todo 6 from rfl]
  iintro ⟨Ht, H0, H2⟩
  iapply (st_send1 m ρ K 0 c _ (dev7 c) (oSmall_of (part_le 0 c) (off6 c) _) rfl rfl rfl) $$ [Ht H0]
  · iframe
  iintro ⟨Ht, H0⟩
  iapply (st_wait0 m ρ K 2 ((1, 2) :: todo 6) rfl (creditA 2) (by decide)) $$ [Ht H2]
  · iframe
  iintro ⟨Ht, H2⟩
  iapply (st_sum0 m ρ 2 c (off7 c) k0_pay2 (fun v w => congrArg (addf · _) (shapeCast_self v _))) $$ H2
  iintro H2
  iapply (st_send1 m ρ K 2 c _ (dev8 c) (oSmall_of (part_le 2 c) (off8 c) _) rfl rfl rfl) $$ [Ht H2]
  · iframe
  iintro ⟨Ht, H2⟩
  iapply (runs_ret c)
  iframe

/-- chain 1's; -/
theorem part5_run (v3 v4 v13 : BitVec 32) :
    iprop(thr m ρ K c (todo 6) ∗ chain1 m ρ 1 c)
      ⊢ Runs c (onArgs (k0_part5 (F := F)) c v3 v4 v13) (fun _ => iprop(thr m ρ K c (todo 7) ∗ chain4 m ρ 1 c)) := by
  rw [k0_part5_eq_skeleton]; unfold k0_part5_skel
  simp only [Prog.lift, Prog.bind_op, Prog.bind_ret, Prog.pure_eq_ret]
  rw [show todo 6 = (1, 1) :: todo 7 from rfl]
  iintro ⟨Ht, H1⟩
  iapply (st_wait0 m ρ K 1 ((1, 1) :: todo 7) rfl (creditA 1) (by decide)) $$ [Ht H1]
  · iframe
  iintro ⟨Ht, H1⟩
  iapply (st_sum0 m ρ 1 c (off9 c) k0_pay3 (fun v w => congrArg (addf · _) (shapeCast_self v _))) $$ H1
  iintro H1
  iapply (st_send1 m ρ K 1 c _ (dev9 c) (oSmall_of (part_le 1 c) (off10 c) _) rfl rfl rfl) $$ [Ht H1]
  · iframe
  iintro ⟨Ht, H1⟩
  iapply (runs_ret c)
  iframe

/-- chain 3's, and chain 0's second sum loaded; -/
theorem part6_run (v3 v4 v15 v18 : BitVec 32) :
    iprop(thr m ρ K c (todo 7) ∗ chain1 m ρ 3 c ∗ chain4 m ρ 0 c)
      ⊢ Runs c (onArgs (k0_part6 (F := F)) c v3 v4 v15 v18) (fun r => iprop(⌜r.1 = rdO (own 0 c) (own_le 0 c) 0 (S1 m ρ 0 c)
          ∧ shapeCast S128x128 r.2 shapeCasts_S1x128x128_S128x128 = rdO (own 0 c) (own_le 0 c) 0 (S1 m ρ 0 (far 0 c))⌝
        ∗ thr m ρ K c (todo 8) ∗ chain4 m ρ 3 c ∗ chain5 m ρ 0 c)) := by
  rw [k0_part6_eq_skeleton]; unfold k0_part6_skel
  simp only [Prog.lift, Prog.bind_op, Prog.bind_ret, Prog.pure_eq_ret]
  rw [show todo 7 = (1, 3) :: todo 8 from rfl]
  iintro ⟨Ht, H3, H0⟩
  iapply (st_wait0 m ρ K 3 ((1, 3) :: todo 8) rfl (creditA 3) (by decide)) $$ [Ht H3]
  · iframe
  iintro ⟨Ht, H3⟩
  iapply (st_sum0 m ρ 3 c (off11 c) k0_pay4 (fun v w => congrArg (addf · _) (shapeCast_self v _))) $$ H3
  iintro H3
  iapply (st_send1 m ρ K 3 c _ (dev10 c) (oSmall_of (part_le 3 c) (off12 c) _) rfl rfl rfl) $$ [Ht H3]
  · iframe
  iintro ⟨Ht, H3⟩
  iapply (st_wait1 m ρ K 0 (todo 8) rfl (creditB 0) (by decide)) $$ [Ht H0]
  · iframe
  iintro ⟨Ht, H0⟩
  iapply (st_loadO m ρ 0 c (off13 c)) $$ H0
  iintro H0
  iapply (st_loadB m ρ 0 c) $$ H0
  iintro %w %hw H0
  iapply (runs_ret c)
  isplitr
  · ipureintro; exact ⟨pay5_eq (rdO (own 0 c) (own_le 0 c) 0 (S1 m ρ 0 c)), hw⟩
  iframe

/-- chain 0's second sum stored and sent, chain 2's second sum; -/
theorem part7_run (v3 v4 v18 v23 : BitVec 32) (v175 : FVec F S128x128 .f32) (v176 : FVec F S1x128x128 .f32)
    (h : v175 = rdO (own 0 c) (own_le 0 c) 0 (S1 m ρ 0 c)
      ∧ shapeCast S128x128 v176 shapeCasts_S1x128x128_S128x128 = rdO (own 0 c) (own_le 0 c) 0 (S1 m ρ 0 (far 0 c))) :
    iprop(thr m ρ K c (todo 8) ∗ chain5 m ρ 0 c ∗ chain4 m ρ 2 c)
      ⊢ Runs c (onArgs (k0_part7 (F := F)) c v3 v4 v18 v23 v175 v176) (fun _ => iprop(thr m ρ K c (todo 9) ∗ chain7 m ρ 0 c ∗ chain6 m ρ 2 c)) := by
  rw [k0_part7_eq_skeleton]; unfold k0_part7_skel
  simp only [Prog.lift, Prog.bind_op, Prog.bind_ret, Prog.pure_eq_ret]
  rw [show todo 8 = (2, 0) :: todo 9 from rfl]
  iintro ⟨Ht, H0, H2⟩
  iapply (st_loadO m ρ 0 c (off13 c)) $$ H0
  iintro H0
  iapply (st_store1 m ρ 0 c (off13 c) (congrArg₂ addf h.1 h.2)) $$ H0
  iintro H0
  iapply (st_send2 m ρ K 0 c _ (dev11 c) (oSmall_of (own_le 0 c) (off14 c) _) (oSmall_of (own_le 0 c) (off14 c) _) rfl rfl) $$ [Ht H0]
  · iframe
  iintro ⟨Ht, H0⟩
  iapply (st_wait1 m ρ K 2 (todo 9) rfl (creditB 2) (by decide)) $$ [Ht H2]
  · iframe
  iintro ⟨Ht, H2⟩
  iapply (st_sum1 m ρ 2 c (off15 c) k0_pay7 (fun v w => congrArg (addf · _) (shapeCast_self v _))) $$ H2
  iintro H2
  iapply (runs_ret c)
  iframe

/-- chain 2's third send, chain 1's second sum and third send; -/
theorem part8_run (v3 v4 v18 : BitVec 32) :
    iprop(thr m ρ K c (todo 9) ∗ chain6 m ρ 2 c ∗ chain4 m ρ 1 c)
      ⊢ Runs c (onArgs (k0_part8 (F := F)) c v3 v4 v18) (fun _ => iprop(thr m ρ K c (todo 11) ∗ chain7 m ρ 2 c ∗ chain7 m ρ 1 c)) := by
  rw [k0_part8_eq_skeleton]; unfold k0_part8_skel
  simp only [Prog.lift, Prog.bind_op, Prog.bind_ret, Prog.pure_eq_ret]
  rw [show todo 9 = (2, 2) :: (2, 1) :: todo 11 from rfl]
  iintro ⟨Ht, H2, H1⟩
  iapply (st_send2 m ρ K 2 c _ (dev12 c) (oSmall_of (own_le 2 c) (off16 c) _) (oSmall_of (own_le 2 c) (off16 c) _) rfl rfl) $$ [Ht H2]
  · iframe
  iintro ⟨Ht, H2⟩
  iapply (st_wait1 m ρ K 1 ((2, 1) :: todo 11) rfl (creditB 1) (by decide)) $$ [Ht H1]
  · iframe
  iintro ⟨Ht, H1⟩
  iapply (st_sum1 m ρ 1 c (off17 c) k0_pay8 (fun v w => congrArg (addf · _) (shapeCast_self v _))) $$ H1
  iintro H1
  iapply (st_send2 m ρ K 1 c _ (dev13 c) (oSmall_of (own_le 1 c) (off18 c) _) (oSmall_of (own_le 1 c) (off18 c) _) rfl rfl) $$ [Ht H1]
  · iframe
  iintro ⟨Ht, H1⟩
  iapply (runs_ret c)
  iframe

/-- chain 3's, and chain 0's third landing; -/
theorem part9_run (v3 v4 v23 : BitVec 32) :
    iprop(thr m ρ K c (todo 11) ∗ chain4 m ρ 3 c ∗ chain7 m ρ 0 c)
      ⊢ Runs c (onArgs (k0_part9 (F := F)) c v3 v4 v23) (fun _ => iprop(thr m ρ K c (todo 12) ∗ chain7 m ρ 3 c ∗ chain8 m ρ 0 c)) := by
  rw [k0_part9_eq_skeleton]; unfold k0_part9_skel
  simp only [Prog.lift, Prog.bind_op, Prog.bind_ret, Prog.pure_eq_ret]
  rw [show todo 11 = (2, 3) :: todo 12 from rfl]
  iintro ⟨Ht, H3, H0⟩
  iapply (st_wait1 m ρ K 3 ((2, 3) :: todo 12) rfl (creditB 3) (by decide)) $$ [Ht H3]
  · iframe
  iintro ⟨Ht, H3⟩
  iapply (st_sum1 m ρ 3 c (off19 c) k0_pay9 (fun v w => congrArg (addf · _) (shapeCast_self v _))) $$ H3
  iintro H3
  iapply (st_send2 m ρ K 3 c _ (dev14 c) (oSmall_of (own_le 3 c) (off20 c) _) (oSmall_of (own_le 3 c) (off20 c) _) rfl rfl) $$ [Ht H3]
  · iframe
  iintro ⟨Ht, H3⟩
  iapply (st_wait2 m ρ K 0 (todo 12) rfl (creditQ _ _) (by decide)) $$ [Ht H0]
  · iframe
  iintro ⟨Ht, H0⟩
  iapply (runs_ret c)
  iframe

/-- the fourth sends of chains 0, 2 and 1; -/
theorem part10_run (v3 v4 : BitVec 32) :
    iprop(thr m ρ K c (todo 12) ∗ chain8 m ρ 0 c ∗ chain7 m ρ 2 c ∗ chain7 m ρ 1 c)
      ⊢ Runs c (onArgs (k0_part10 (F := F)) c v3 v4) (fun _ => iprop(thr m ρ K c (todo 15) ∗ chain9 m ρ 0 c ∗ chain9 m ρ 2 c ∗ chain9 m ρ 1 c)) := by
  rw [k0_part10_eq_skeleton]; unfold k0_part10_skel
  simp only [Prog.lift, Prog.bind_op, Prog.bind_ret, Prog.pure_eq_ret]
  rw [show todo 12 = (3, 0) :: (3, 2) :: (3, 1) :: todo 15 from rfl]
  iintro ⟨Ht, H0, H2, H1⟩
  iapply (st_send3 m ρ K 0 c _ (dev15 c) (oBig_of (keep_le 0 c) (off21 c) _) (oBig_of (keep_le 0 c) (off21 c) _) rfl rfl) $$ [Ht H0]
  · iframe
  iintro ⟨Ht, H0⟩
  iapply (st_wait2 m ρ K 2 ((3, 2) :: (3, 1) :: todo 15) rfl (creditQ _ _) (by decide)) $$ [Ht H2]
  · iframe
  iintro ⟨Ht, H2⟩
  iapply (st_send3 m ρ K 2 c _ (dev16 c) (oBig_of (keep_le 2 c) (off22 c) _) (oBig_of (keep_le 2 c) (off22 c) _) rfl rfl) $$ [Ht H2]
  · iframe
  iintro ⟨Ht, H2⟩
  iapply (st_wait2 m ρ K 1 ((3, 1) :: todo 15) rfl (creditQ _ _) (by decide)) $$ [Ht H1]
  · iframe
  iintro ⟨Ht, H1⟩
  iapply (st_send3 m ρ K 1 c _ (dev17 c) (oBig_of (keep_le 1 c) (off23 c) _) (oBig_of (keep_le 1 c) (off23 c) _) rfl rfl) $$ [Ht H1]
  · iframe
  iintro ⟨Ht, H1⟩
  iapply (runs_ret c)
  iframe

/-- chain 3's, and the last landings of chains 0 and 2; -/
theorem part11_run (v3 v4 : BitVec 32) :
    iprop(thr m ρ K c (todo 15) ∗ chain7 m ρ 3 c ∗ chain9 m ρ 0 c ∗ chain9 m ρ 2 c)
      ⊢ Runs c (onArgs (k0_part11 (F := F)) c v3 v4) (fun _ => iprop(thr m ρ K c [] ∗ chain9 m ρ 3 c ∗ chain10 m ρ 0 c ∗ chain10 m ρ 2 c)) := by
  rw [k0_part11_eq_skeleton]; unfold k0_part11_skel
  simp only [Prog.lift, Prog.bind_op, Prog.bind_ret, Prog.pure_eq_ret]
  rw [show todo 15 = [(3, 3)] from rfl]
  iintro ⟨Ht, H3, H0, H2⟩
  iapply (st_wait2 m ρ K 3 [(3, 3)] rfl (creditQ _ _) (by decide)) $$ [Ht H3]
  · iframe
  iintro ⟨Ht, H3⟩
  iapply (st_send3 m ρ K 3 c _ (dev18 c) (oBig_of (keep_le 3 c) (off24 c) _) (oBig_of (keep_le 3 c) (off24 c) _) rfl rfl) $$ [Ht H3]
  · iframe
  iintro ⟨Ht, H3⟩
  iapply (st_wait3 m ρ K 0 [] rfl (creditO _ _) (by decide)) $$ [Ht H0]
  · iframe
  iintro ⟨Ht, H0⟩
  iapply (st_wait3 m ρ K 2 [] rfl (creditO _ _) (by decide)) $$ [Ht H2]
  · iframe
  iintro ⟨Ht, H2⟩
  iapply (runs_ret c)
  iframe

/-- of chains 1 and 3, and the first sends' completions; -/
theorem part12_run (v4 : BitVec 32) :
    iprop(thr m ρ K c [] ∗ chain9 m ρ 1 c ∗ chain9 m ρ 3 c ∗ chain10 m ρ 0 c ∗ chain10 m ρ 2 c)
      ⊢ Runs c (onArgs (k0_part12 (F := F)) c v4) (fun _ => iprop(thr m ρ K c [] ∗ chain11 m ρ 1 c ∗ chain10 m ρ 3 c ∗ chain11 m ρ 0 c ∗ chain11 m ρ 2 c)) := by
  rw [k0_part12_eq_skeleton]; unfold k0_part12_skel
  simp only [Prog.lift, Prog.bind_op, Prog.bind_ret, Prog.pure_eq_ret]
  iintro ⟨Ht, H1, H3, H0, H2⟩
  iapply (st_wait3 m ρ K 1 [] rfl (creditO _ _) (by decide)) $$ [Ht H1]
  · iframe
  iintro ⟨Ht, H1⟩
  iapply (st_wait3 m ρ K 3 [] rfl (creditO _ _) (by decide)) $$ [Ht H3]
  · iframe
  iintro ⟨Ht, H3⟩
  iapply (st_sent0 m ρ K 0 rfl (creditX _ _)) $$ [Ht H0]
  · iframe
  iintro ⟨Ht, H0⟩
  iapply (st_sent0 m ρ K 2 rfl (creditX _ _)) $$ [Ht H2]
  · iframe
  iintro ⟨Ht, H2⟩
  iapply (st_sent0 m ρ K 1 rfl (creditX _ _)) $$ [Ht H1]
  · iframe
  iintro ⟨Ht, H1⟩
  iapply (runs_ret c)
  iframe

/-- the second sends'; -/
theorem part13_run  :
    iprop(thr m ρ K c [] ∗ chain10 m ρ 3 c ∗ chain11 m ρ 0 c ∗ chain11 m ρ 2 c ∗ chain11 m ρ 1 c)
      ⊢ Runs c (onArgs (k0_part13 (F := F)) c) (fun _ => iprop(thr m ρ K c [] ∗ chain11 m ρ 3 c ∗ chain12 m ρ 0 c ∗ chain12 m ρ 2 c ∗ chain12 m ρ 1 c)) := by
  rw [k0_part13_eq_skeleton]; unfold k0_part13_skel
  simp only [Prog.lift, Prog.bind_op, Prog.bind_ret, Prog.pure_eq_ret]
  iintro ⟨Ht, H3, H0, H2, H1⟩
  iapply (st_sent0 m ρ K 3 rfl (creditX _ _)) $$ [Ht H3]
  · iframe
  iintro ⟨Ht, H3⟩
  iapply (st_sent1 m ρ K 0 rfl (creditQ _ _)) $$ [Ht H0]
  · iframe
  iintro ⟨Ht, H0⟩
  iapply (st_sent1 m ρ K 2 rfl (creditQ _ _)) $$ [Ht H2]
  · iframe
  iintro ⟨Ht, H2⟩
  iapply (st_sent1 m ρ K 1 rfl (creditQ _ _)) $$ [Ht H1]
  · iframe
  iintro ⟨Ht, H1⟩
  iapply (runs_ret c)
  iframe

/-- the third sends', and chain 0's last. -/
theorem part14_run  :
    iprop(thr m ρ K c [] ∗ chain11 m ρ 3 c ∗ chain12 m ρ 0 c ∗ chain12 m ρ 2 c ∗ chain12 m ρ 1 c)
      ⊢ Runs c (onArgs (k0_part14 (F := F)) c) (fun _ => iprop(thr m ρ K c [] ∗ chain13 m ρ 3 c ∗ chain14 m ρ 0 c ∗ chain13 m ρ 2 c ∗ chain13 m ρ 1 c)) := by
  rw [k0_part14_eq_skeleton]; unfold k0_part14_skel
  simp only [Prog.lift, Prog.bind_op, Prog.bind_ret, Prog.pure_eq_ret]
  iintro ⟨Ht, H3, H0, H2, H1⟩
  iapply (st_sent1 m ρ K 3 rfl (creditQ _ _)) $$ [Ht H3]
  · iframe
  iintro ⟨Ht, H3⟩
  iapply (st_sent2 m ρ K 0 rfl (creditQ _ _)) $$ [Ht H0]
  · iframe
  iintro ⟨Ht, H0⟩
  iapply (st_sent2 m ρ K 2 rfl (creditQ _ _)) $$ [Ht H2]
  · iframe
  iintro ⟨Ht, H2⟩
  iapply (st_sent2 m ρ K 1 rfl (creditQ _ _)) $$ [Ht H1]
  · iframe
  iintro ⟨Ht, H1⟩
  iapply (st_sent2 m ρ K 3 rfl (creditQ _ _)) $$ [Ht H3]
  · iframe
  iintro ⟨Ht, H3⟩
  iapply (st_sent3 m ρ K 0 rfl (creditO _ _)) $$ [Ht H0]
  · iframe
  iintro ⟨Ht, H0⟩
  iapply (runs_ret c)
  iframe

end Cert.KernelIdeal.Exchange
-- ==== Proof.Ideal.Body.lean ====
/-
One device's body: the handshake with the two partners, the chains set up from the buffers and from what the partners
lend, the parts in order, and the buffers put together again.
-/
module

public import proofs.«01_k».proof.Proof.Ideal.Parts
public import Idealize.ShloMosaic.Lib.Pipeline.Value

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Fin 33 → ℕ)

variable (c : Dev nD)

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The handshake -/

/-- What the handshake leaves: the barrier closed, and both partners' loans. -/
def afterBar (c : Dev nD) : sProp 𝕄 :=
  iprop(semVal (barC c) 0 ∗ barPay (F := F) false c ∗ barPay (F := F) true c)
/-- What it starts from. -/
def beforeBar (c : Dev nD) : sProp 𝕄 :=
  iprop(atPos ER (barC c) 0 ∅ 0 ∗ cred (tallyAt (barC c) () 2) ∗ dutyTok ER (barC (acrossA c)) 0 false ∗ dutyTok ER (barC (acrossB c)) 0 true)

/-- The two signals and the wait. -/
theorem part1_run :
    iprop(facts m ρ K ∗ (∃ W, owes (c : Thread nD τ) (O₀ c) W) ∗ beforeBar c ∗ barPay (F := F) false (acrossA c) ∗ barPay (F := F) true (acrossB c))
      ⊢ Runs c (onArgs (k0_part1 (F := F))) (fun r => iprop(⌜r.1 = c⌝ ∗ thr m ρ K c (todo 0) ∗ afterBar c)) := by
  rw [k0_part1_eq_skeleton]; unfold k0_part1_skel
  simp only [semSignalWord, semWaitWord, Prog.lift, Prog.bind_op, Prog.bind_ret, Prog.pure_eq_ret, Runs, wp_deviceId, dev1, dev2]
  unfold beforeBar
  iintro ⟨#HF, ⟨%W, HO⟩, ⟨HaB, HcB, HtA, HtB⟩, HpA, HpB⟩
  unfold O₀
  iapply (Rounds.wp_signal 𝒱₀ ER (Rd m ρ) (c : Thread nD τ) none (dst := (acrossA c : Thread nD τ)) (κ := K (acrossA c, 0))
      (d := false) (by rw [duties_bar]; exact Finset.mem_univ _) ((amount_bar m ρ (acrossA c) false).trans (by decide)) () (O₁ c) rfl)
    $$ [HO HtA HpA]
  · isplitr; · iapply (facts_inv m ρ K (acrossA c, 0) csem_bar); iexact HF
    isplitl [HO]; · iexact HO
    isplitl [HtA]; · iexact HtA
    isplitl [HpA]; · rw [payload_bar]; iexact HpA
    iapply (facts_reached m ρ K (acrossA c, 0) csem_bar); iexact HF
  iintro HO
  unfold O₁
  iapply (Rounds.wp_signal 𝒱₀ ER (Rd m ρ) (c : Thread nD τ) none (dst := (acrossB c : Thread nD τ)) (κ := K (acrossB c, 0))
      (d := true) (by rw [duties_bar]; exact Finset.mem_univ _) ((amount_bar m ρ (acrossB c) true).trans (by decide)) () (owedL c order) rfl)
    $$ [HO HtB HpB]
  · isplitr; · iapply (facts_inv m ρ K (acrossB c, 0) csem_bar); iexact HF
    isplitl [HO]; · iexact HO
    isplitl [HtB]; · iexact HtB
    isplitl [HpB]; · rw [payload_bar]; iexact HpB
    iapply (facts_reached m ρ K (acrossB c, 0) csem_bar); iexact HF
  iintro HO
  iapply (Rounds.wp_wait_rest_token 𝒱₀ ER (Rd m ρ) (c : Thread nD τ) none (κ := K (c, 0))
      (wpE_semWait_eq 𝒱₀ (c : Thread nD τ) none Set.univ) (Set.mem_univ _) () (O := owedL c order) (W := W) (R := 0) (m := 0) (T := ∅)
      (by rw [expect_bar]; decide)) $$ [HcB HO HaB]
  · isplitr; · iapply (facts_inv m ρ K (c, 0) csem_bar); iexact HF
    isplitl [HcB]; · iexact HcB
    isplitl [HO]; · iexact HO
    isplitr
    · iapply (mayWait_owedL (F := F) c (.reg barS) order (by decide)); iapply (facts_lev m ρ K); iexact HF
    iexact HaB
  iintro ⟨HO, HaB, -, Hpay⟩
  ihave Hp := (Entails.of_eq (rest_bar m ρ c)) $$ Hpay
  imod (Rounds.cell_close ER (Rd m ρ) (Set.mem_univ (K (c, 0))) (fun h => h) (R := 0 + 1) (duties_later m ρ (barC c))) $$ [HaB] with HzB
  · isplitr; · iapply (facts_inv m ρ K (c, 0) csem_bar); iexact HF
    iexact HaB
  iapply (runs_ret c)
  unfold thr afterBar
  icases Hp with ⟨H1, H2⟩
  isplitr; · ipureintro; rfl
  isplitl [HO]
  · isplitr; · iexact HF
    iexists _; iexact HO
  iframe

/-! ## Setting the chains up -/

/-- The tokens of a chain's four transfers. -/
def toks (k : Fin 4) (c : Dev nD) : sProp 𝕄 := iprop(tok 0 k c ∗ tok 1 k c ∗ tok 2 k c ∗ tok 3 k c)
/-- A device's own pieces for a chain: its columns of the input and of the output, and its two slots. -/
def pieces (g : FVec F S512x512 .f32) (fa : FVec F S4x256x128 .f32) (fb : FVec F S4x128x128 .f32) (k : Fin 4) (c : Dev nD) : sProp 𝕄 :=
  iprop(xPt c (colReg k) fullShare (X m ρ c) ∗ oPt c (colReg k) fullShare g ∗ aPt c k fa ∗ bPt c k fb)
/-- What of them a device keeps. -/
def kept (k : Fin 4) (c : Dev nD) : sProp 𝕄 := iprop(xKeep m ρ k c ∗ xOther m ρ k c ∗ oAny k c)

/-- A device keeps part of its pieces and lends the rest: to the near partner, and to the far one. -/
theorem lend (g : FVec F S512x512 .f32) (fa : FVec F S4x256x128 .f32) (fb : FVec F S4x128x128 .f32) (k : Fin 4) :
    pieces m ρ g fa fb k c ⊢ iprop(kept m ρ k c ∗ nearPay (F := F) k (near k c) ∗ farPay (F := F) k (far k c)) := by
  unfold pieces kept nearPay farPay
  rw [near_near, far_far, keep_near]
  iintro ⟨Hx, Ho, Ha, Hb⟩
  ihave Hx' := (xPt_cols c k fullShare (X m ρ c)).1 $$ Hx
  icases Hx' with ⟨Xk, Xo⟩
  ihave Ho' := (oPt_cols c k fullShare g).1 $$ Ho
  icases Ho' with ⟨Ok, Oo⟩
  isplitl [Xk Xo Ok]
  · iframe; unfold oAny; iexists g; iframe
  isplitl [Ha Oo]
  · isplitl [Ha]
    · iexists fa; iframe
    · iexists g; iframe
  iexists fb; iframe

/-- A chain starts from its tokens, the pieces kept, and the partners' loans. -/
theorem chain0_intro (k : Fin 4) :
    iprop(toks k c ∗ kept m ρ k c ∗ nearPay (F := F) k c ∗ farPay (F := F) k c) ⊢ chain0 m ρ k c := by
  unfold toks kept nearPay farPay chain0
  iintro ⟨⟨T0, T1, T2, T3⟩, ⟨Xk, Xo, Oa⟩, ⟨Al, Ol⟩, Bl⟩
  iframe

/-! ## Putting the buffers together -/

/-- The slots of the first landing buffer, whatever they hold, are the buffer. -/
theorem slotsA (m : (ℓ : Loc nD τ sig) → Buf (Elt F) ℓ) : (bigSep Finset.univ fun k : Fin 4 => iprop(∃ f, aPt (F := F) c k f)) ⊢ (iprop(∃ f, ((c : Thread nD τ).loc cc0_scratch0) ↦{fullShare} f) : sProp 𝕄) := by
  haveI : Nonempty (FVec F S4x256x128 .f32) := ⟨m ((c : Thread nD τ).loc cc0_scratch0)⟩
  iintro H
  ihave H' := (BI.bigSep_exists_pi Finset.univ (fun (k : Fin 4) (f : FVec F S4x256x128 .f32) => aPt (F := F) c k f)) $$ H
  icases H' with ⟨%g, H⟩
  iexists (fun i : S4x256x128.Idx => g (i 0) i)
  rw [aPt_all c]
  have hc : ∀ k ∈ (Finset.univ : Finset (Fin 4)), aPt (F := F) c k (g k) ⊢ aPt (F := F) c k (fun i => g (i 0) i) := fun k _ =>
    Entails.of_eq (pointsTo_congr fun i hi => by rw [show i 0 = k from Fin.ext (mem_rA.mp hi)])
  ihave H' := ((Entails.of_eq rfl).trans (bigSep_mono hc)) $$ H
  iexact H'
/-- And those of the second. -/
theorem slotsB (m : (ℓ : Loc nD τ sig) → Buf (Elt F) ℓ) : (bigSep Finset.univ fun k : Fin 4 => iprop(∃ f, bPt (F := F) c k f)) ⊢ (iprop(∃ f, ((c : Thread nD τ).loc cc0_scratch1) ↦{fullShare} f) : sProp 𝕄) := by
  haveI : Nonempty (FVec F S4x128x128 .f32) := ⟨m ((c : Thread nD τ).loc cc0_scratch1)⟩
  iintro H
  ihave H' := (BI.bigSep_exists_pi Finset.univ (fun (k : Fin 4) (f : FVec F S4x128x128 .f32) => bPt (F := F) c k f)) $$ H
  icases H' with ⟨%g, H⟩
  iexists (fun i : S4x128x128.Idx => g (i 0) i)
  rw [bPt_all c]
  have hc : ∀ k ∈ (Finset.univ : Finset (Fin 4)), bPt (F := F) c k (g k) ⊢ bPt (F := F) c k (fun i => g (i 0) i) := fun k _ =>
    Entails.of_eq (pointsTo_congr fun i hi => by rw [show i 0 = k from Fin.ext (mem_rB.mp hi)])
  ihave H' := ((Entails.of_eq rfl).trans (bigSep_mono hc)) $$ H
  iexact H'

/-- The counters of a chain's semaphores, all at zero. -/
def fins (k : Fin 4) (c : Dev nD) : sProp 𝕄 := iprop(fin 0 k c ∗ fin 1 k c ∗ fin 2 k c ∗ fin 3 k c)

/-- The chains, finished: the counters, the input and the result, and the landing buffers. -/
theorem finish :
    (bigSep Finset.univ fun k : Fin 4 => chain14 m ρ k c) ⊢ iprop((bigSep Finset.univ fun k : Fin 4 => fins (F := F) k c)
      ∗ (((c : Thread nD τ).loc cc0_stg0_0) ↦{fullShare} X m ρ c) ∗ (((c : Thread nD τ).loc cc0_stg1_0) ↦{fullShare} RES m ρ)
      ∗ (∃ f, ((c : Thread nD τ).loc cc0_scratch0) ↦{fullShare} f) ∗ (∃ f, ((c : Thread nD τ).loc cc0_scratch1) ↦{fullShare} f)) := by
  have h : ∀ k : Fin 4, chain14 m ρ k c ⊢ iprop(fins (F := F) k c ∗ xPt c (colReg k) fullShare (X m ρ c) ∗ oPt c (colReg k) fullShare (OUT m ρ k)
      ∗ (∃ f, aPt (F := F) c k f) ∗ ∃ f, bPt (F := F) c k f) := by
    intro k
    unfold chain14 fins aGot bGot
    iintro ⟨F0, F1, F2, F3, Xc, ⟨%fa, -, Ha⟩, ⟨%fb, -, Hb⟩, Oc⟩
    iframe
    isplitl [Ha]
    · iexists fa; iframe
    · iexists fb; iframe
  refine (bigSep_mono fun k _ => h k).trans ?_
  rw [bigSep_sep', bigSep_sep', bigSep_sep', bigSep_sep', ← xPt_all, oPt_result]
  show (iprop(_ ∗ _ ∗ _ ∗ _ ∗ _) : sProp 𝕄) ⊢ _
  iintro ⟨HF, HX, HO, HA, HB⟩
  isplitl [HF]; · iexact HF
  isplitl [HX]; · iexact HX
  isplitl [HO]; · iexact HO
  isplitl [HA]
  · iapply (slotsA c m); iexact HA
  · iapply (slotsB c m); iexact HB

/-! ## The body -/

/-- A part, and what follows it. -/
theorem then_run {α β : Type} {p : Prog (TpuEff nD τ sig (Elt F) Λ₀ .tc) β} {R : β → sProp 𝕄} {P : sProp 𝕄} (h : P ⊢ Runs c p R)
    {kont : β → Prog (TpuEff nD τ sig (Elt F) Λ₀ .tc) α} {Q : α → sProp 𝕄} :
    P ⊢ iprop((∀ a, R a -∗ Runs c (kont a) Q) -∗ Runs c (p >>= kont) Q) := by
  rw [Runs, wp_bind]
  exact h.trans (wp_wand _ _ _)

/-- What the whole body starts from. -/
def bodyStart (g : FVec F S512x512 .f32) (fa : FVec F S4x256x128 .f32) (fb : FVec F S4x128x128 .f32) (c : Dev nD) : sProp 𝕄 :=
  iprop(facts m ρ K ∗ (∃ W, owes (c : Thread nD τ) (O₀ c) W) ∗ beforeBar c ∗ (bigSep Finset.univ fun k : Fin 4 => toks (F := F) k c)
    ∗ (((c : Thread nD τ).loc cc0_stg0_0) ↦{fullShare} X m ρ c) ∗ (((c : Thread nD τ).loc cc0_stg1_0) ↦{fullShare} g)
    ∗ (((c : Thread nD τ).loc cc0_scratch0) ↦{fullShare} fa) ∗ (((c : Thread nD τ).loc cc0_scratch1) ↦{fullShare} fb))
/-- What it ends with. -/
def bodyEnd (c : Dev nD) : sProp 𝕄 :=
  iprop((∃ W, owes (c : Thread nD τ) 0 W) ∗ semVal (barC c) 0 ∗ (bigSep Finset.univ fun k : Fin 4 => fins (F := F) k c)
    ∗ (((c : Thread nD τ).loc cc0_stg0_0) ↦{fullShare} X m ρ c) ∗ (((c : Thread nD τ).loc cc0_stg1_0) ↦{fullShare} RES m ρ)
    ∗ (∃ f, ((c : Thread nD τ).loc cc0_scratch0) ↦{fullShare} f) ∗ (∃ f, ((c : Thread nD τ).loc cc0_scratch1) ↦{fullShare} f))

/-- Before the handshake: everything in hand, with the loans ready for the two partners. -/
theorem ready (g : FVec F S512x512 .f32) (fa : FVec F S4x256x128 .f32) (fb : FVec F S4x128x128 .f32) :
    iprop((((c : Thread nD τ).loc cc0_stg0_0) ↦{fullShare} X m ρ c) ∗ (((c : Thread nD τ).loc cc0_stg1_0) ↦{fullShare} g)
        ∗ (((c : Thread nD τ).loc cc0_scratch0) ↦{fullShare} fa) ∗ (((c : Thread nD τ).loc cc0_scratch1) ↦{fullShare} fb))
      ⊢ iprop((bigSep Finset.univ fun k : Fin 4 => kept m ρ k c) ∗ barPay (F := F) false (acrossA c) ∗ barPay (F := F) true (acrossB c)) := by
  have h : iprop((((c : Thread nD τ).loc cc0_stg0_0) ↦{fullShare} X m ρ c) ∗ (((c : Thread nD τ).loc cc0_stg1_0) ↦{fullShare} g)
        ∗ (((c : Thread nD τ).loc cc0_scratch0) ↦{fullShare} fa) ∗ (((c : Thread nD τ).loc cc0_scratch1) ↦{fullShare} fb))
      = (bigSep Finset.univ fun k : Fin 4 => pieces m ρ g fa fb k c : sProp 𝕄) := by
    unfold pieces
    rw [bigSep_sep', bigSep_sep', bigSep_sep', xPt_all, oPt_all, aPt_all, bPt_all]
  rw [h]
  refine (bigSep_mono fun k _ => lend m ρ c g fa fb k).trans ?_
  rw [bigSep_sep', bigSep_sep', bigSep_four (fun k => nearPay (F := F) k (near k c)), bigSep_four (fun k => farPay (F := F) k (far k c))]
  show (iprop(_ ∗ _ ∗ _) : sProp 𝕄) ⊢ iprop(_ ∗ (nearPay (F := F) 0 (near 0 c) ∗ nearPay (F := F) 1 (near 1 c) ∗ farPay (F := F) 2 (far 2 c) ∗ farPay (F := F) 3 (far 3 c))
    ∗ (nearPay (F := F) 2 (near 2 c) ∗ nearPay (F := F) 3 (near 3 c) ∗ farPay (F := F) 0 (far 0 c) ∗ farPay (F := F) 1 (far 1 c)))
  iintro ⟨HK, ⟨N0, N1, N2, N3⟩, F0, F1, F2, F3⟩
  iframe

/-- After it: the chains at their start. -/
theorem begun :
    iprop((bigSep Finset.univ fun k : Fin 4 => toks (F := F) k c) ∗ (bigSep Finset.univ fun k : Fin 4 => kept m ρ k c)
        ∗ barPay (F := F) false c ∗ barPay (F := F) true c)
      ⊢ bigSep Finset.univ fun k : Fin 4 => chain0 m ρ k c := by
  refine BI.Entails.trans ?_ (bigSep_mono fun k _ => chain0_intro m ρ c k)
  rw [bigSep_sep', bigSep_sep', bigSep_sep', bigSep_four (fun k => nearPay (F := F) k c), bigSep_four (fun k => farPay (F := F) k c)]
  show iprop(_ ∗ _ ∗ (nearPay (F := F) 0 c ∗ nearPay (F := F) 1 c ∗ farPay (F := F) 2 c ∗ farPay (F := F) 3 c)
    ∗ (nearPay (F := F) 2 c ∗ nearPay (F := F) 3 c ∗ farPay (F := F) 0 c ∗ farPay (F := F) 1 c)) ⊢ _
  iintro ⟨HT, HK, ⟨N0, N1, F2, F3⟩, N2, N3, F0, F1⟩
  iframe

/-- The body on device `c`: from its buffers and tokens to the result. -/
theorem body_run (g : FVec F S512x512 .f32) (fa : FVec F S4x256x128 .f32) (fb : FVec F S4x128x128 .f32) :
    bodyStart m ρ K g fa fb c ⊢ Runs c (onArgs (cc0_body (F := F))) (fun _ => bodyEnd m ρ c) := by
  rw [cc0_body_eq_skeleton]; unfold cc0_body_skel bodyStart
  iintro ⟨#HF, HO, HB, HT, HX, Hg, Ha, Hb⟩
  ihave HR := (ready m ρ c g fa fb) $$ [HX Hg Ha Hb]
  · iframe
  icases HR with ⟨HK, HpA, HpB⟩
  iapply (then_run c (part1_run m ρ K c)) $$ [HO HB HpA HpB]
  · iframe HO HB HpA HpB; iexact HF
  iintro %r ⟨%hr, Ht, HA⟩
  obtain ⟨d0, v3, v4, v13, v15, v18, v23, v⟩ := r
  have hd : d0 = c := hr
  subst hd
  unfold afterBar
  icases HA with ⟨HzB, P1, P2⟩
  ihave HC := ((begun m ρ d0).trans (Entails.of_eq (bigSep_four _))) $$ [HT HK P1 P2]
  · iframe
  icases HC with ⟨H0, H1, H2, H3⟩
  iapply (then_run d0 (part2_run m ρ K d0 v3 v4 v13 v15 v23 v)) $$ [Ht H0 H2]
  · iframe
  iintro %_ ⟨Ht, H0, H2⟩
  iapply (then_run d0 (part3_run m ρ K d0 v3 v4 v13 v15)) $$ [Ht H0 H1 H3]
  · iframe
  iintro %r ⟨Ht, H1, H3, H0⟩
  obtain ⟨v85, v0⟩ := r
  iapply (then_run d0 (part4_run m ρ K d0 v3 v4 v15 v85 v0)) $$ [Ht H0 H2]
  · iframe
  iintro %_ ⟨Ht, H0, H2⟩
  iapply (then_run d0 (part5_run m ρ K d0 v3 v4 v13)) $$ [Ht H1]
  · iframe
  iintro %_ ⟨Ht, H1⟩
  iapply (then_run d0 (part6_run m ρ K d0 v3 v4 v15 v18)) $$ [Ht H0 H3]
  · iframe
  iintro %r ⟨%h, Ht, H3, H0⟩
  obtain ⟨v175, v176⟩ := r
  iapply (then_run d0 (part7_run m ρ K d0 v3 v4 v18 v23 v175 v176 h)) $$ [Ht H0 H2]
  · iframe
  iintro %_ ⟨Ht, H0, H2⟩
  iapply (then_run d0 (part8_run m ρ K d0 v3 v4 v18)) $$ [Ht H2 H1]
  · iframe
  iintro %_ ⟨Ht, H2, H1⟩
  iapply (then_run d0 (part9_run m ρ K d0 v3 v4 v23)) $$ [Ht H3 H0]
  · iframe
  iintro %_ ⟨Ht, H3, H0⟩
  iapply (then_run d0 (part10_run m ρ K d0 v3 v4)) $$ [Ht H0 H2 H1]
  · iframe
  iintro %_ ⟨Ht, H0, H2, H1⟩
  iapply (then_run d0 (part11_run m ρ K d0 v3 v4)) $$ [Ht H3 H0 H2]
  · iframe
  iintro %_ ⟨Ht, H3, H0, H2⟩
  iapply (then_run d0 (part12_run m ρ K d0 v4)) $$ [Ht H1 H3 H0 H2]
  · iframe
  iintro %_ ⟨Ht, H1, H3, H0, H2⟩
  iapply (then_run d0 (part13_run m ρ K d0)) $$ [Ht H3 H0 H2 H1]
  · iframe
  iintro %_ ⟨Ht, H3, H0, H2, H1⟩
  iapply (then_run d0 (part14_run m ρ K d0)) $$ [Ht H3 H0 H2 H1]
  · iframe
  iintro %_ ⟨Ht, H3, H0, H2, H1⟩
  simp only [Prog.lift, Prog.bind_op, Prog.bind_ret, Prog.pure_eq_ret]
  iapply (st_sent3 m ρ K 2 rfl (creditO _ _)) $$ [Ht H2]
  · iframe
  iintro ⟨Ht, H2⟩
  iapply (st_sent3 m ρ K 1 rfl (creditO _ _)) $$ [Ht H1]
  · iframe
  iintro ⟨Ht, H1⟩
  iapply (st_sent3 m ρ K 3 rfl (creditO _ _)) $$ [Ht H3]
  · iframe
  iintro ⟨Ht, H3⟩
  iapply (runs_ret d0)
  ihave HE := ((Entails.of_eq (bigSep_four (fun k => chain14 m ρ k d0)).symm).trans (finish m ρ d0)) $$ [H0 H1 H2 H3]
  · iframe
  icases HE with ⟨HFin, HX, HO, HA, HB⟩
  unfold bodyEnd thr
  icases Ht with ⟨-, Ht⟩
  isplitl [Ht]; · iexact Ht
  iframe

end Cert.KernelIdeal.Exchange
-- ==== Proof.Ideal.Deal.lean ====
/-
The ghost state at launch: the cells and their tokens, dealt to the devices that use them, and the credit each device
finds at its own cells.
-/
module

public import proofs.«01_k».proof.Proof.Ideal.Body
public import Idealize.ShloMosaic.Lib.Pipeline.Value

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev JK : Type := Fin 4 × Fin 4

/-! ## Big separating conjunctions over the cells -/

omit [FloatOps F] in
/-- Over phase and chain, chain by chain. -/
theorem bigSep_JK (Φ : Fin 4 → Fin 4 → sProp 𝕄) :
    (bigSep Finset.univ fun jk : JK => Φ jk.1 jk.2) = bigSep Finset.univ fun k : Fin 4 => iprop(Φ 0 k ∗ Φ 1 k ∗ Φ 2 k ∗ Φ 3 k) := by
  rw [bigSep_univ_equiv (Equiv.prodComm (Fin 4) (Fin 4)), bigSep_univ_prod]
  exact bigSep_congr fun k _ => bigSep_four fun j => Φ j k

def sE : JK ↪ Fin 33 := ⟨fun jk => sIx jk.1 jk.2, by decide +kernel⟩
def rE : JK ↪ Fin 33 := ⟨fun jk => rIx jk.1 jk.2, by decide +kernel⟩

omit [FloatOps F] in
/-- Over a device's cells: the barrier, the sending ones, the receiving ones. -/
theorem bigSep_cells (Φ : SemLoc sig → sProp 𝕄) : (bigSep Finset.univ fun i : Fin 33 => Φ (csem i))
    = iprop(Φ (.reg barS) ∗ (bigSep Finset.univ fun jk : JK => Φ (.dma (sS jk.1 jk.2))) ∗ bigSep Finset.univ fun jk : JK => Φ (.dma (rS jk.1 jk.2))) := by
  have hu : (Finset.univ : Finset (Fin 33)) = {0} ∪ (Finset.univ.map sE ∪ Finset.univ.map rE) := by decide +kernel
  have h1 : Disjoint ({0} : Finset (Fin 33)) (Finset.univ.map sE ∪ Finset.univ.map rE) := by decide +kernel
  have h2 : Disjoint (Finset.univ.map sE) (Finset.univ.map rE) := by decide +kernel
  rw [hu, bigSep_union h1, bigSep_union h2, bigSep_singleton, bigSep_map, bigSep_map, csem_bar]
  have hs : ∀ jk : JK, Φ (csem (sE jk)) = Φ (.dma (sS jk.1 jk.2)) := fun jk => congrArg Φ (csem_sIx jk.1 jk.2)
  have hr : ∀ jk : JK, Φ (csem (rE jk)) = Φ (.dma (rS jk.1 jk.2)) := fun jk => congrArg Φ (csem_rIx jk.1 jk.2)
  rw [bigSep_congr fun jk _ => hs jk, bigSep_congr fun jk _ => hr jk]
  rfl

/-! ## The cells and the tokens -/

theorem csem_injective : Function.Injective csem := by decide +kernel
theorem kcell_injective : Function.Injective (kcell : Dev nD × Fin 33 → GSem nD τ sig) := fun a b h =>
  Prod.ext (congrArg (fun g : GSem nD τ sig => g.1.1) h) (csem_injective (congrArg Prod.snd h))
theorem barC_injective : Function.Injective (barC : Dev nD → GSem nD τ sig) := fun a b h => congrArg (fun g : GSem nD τ sig => g.1.1) h
/-- Every cell of every device. -/
def allCells : Finset (GSem nD τ sig) := Finset.univ.map ⟨kcell, kcell_injective⟩
/-- Every cell's first duty, and the barriers' second. -/
def firstToks : Finset (GSem nD τ sig × ℕ × Bool) := allCells.map ⟨fun g => (g, 0, false), fun _ _ h => congrArg Prod.fst h⟩
def secondToks : Finset (GSem nD τ sig × ℕ × Bool) := Finset.univ.map ⟨fun c : Dev nD => (barC c, 0, true), fun _ _ h => barC_injective (congrArg Prod.fst h)⟩
def allToks : Finset (GSem nD τ sig × ℕ × Bool) := firstToks ∪ secondToks
theorem toks_disjoint : Disjoint firstToks secondToks := by
  rw [Finset.disjoint_left]
  intro x h1 h2
  unfold firstToks at h1; unfold secondToks at h2
  obtain ⟨g, -, rfl⟩ := Finset.mem_map.mp h1
  obtain ⟨d, -, h⟩ := Finset.mem_map.mp h2
  have : true = false := congrArg (fun x : GSem nD τ sig × ℕ × Bool => x.2.2) h
  cases this

def u₀ : UU := (initOf (Pipeline.cells cfgs cellOf_inj) (Pipeline.launchToks cfgs cellOf_inj), initOf allCells allToks)

omit [FloatOps F] in
theorem bigSep_allCells (Φ : GSem nD τ sig → sProp 𝕄) :
    bigSep allCells Φ = bigSep Finset.univ fun c : Dev nD => bigSep Finset.univ fun i : Fin 33 => Φ (kcell (c, i)) := by
  unfold allCells; rw [bigSep_map, bigSep_univ_prod]; rfl

/-- What the launch gives device `c`: its cells' rounds, its positions, and its own cells' tokens. -/
def G (c : Dev nD) : sProp 𝕄 :=
  iprop((bigSep Finset.univ fun i : Fin 33 => roundState ER (Rd m ρ) (kcell (c, i)) 0)
    ∗ (bigSep Finset.univ fun i : Fin 33 => atPos ER (kcell (c, i)) 0 ∅ 0) ∗ (bigSep Finset.univ fun i : Fin 33 => reached ER (kcell (c, i)) 0)
    ∗ (bigSep Finset.univ fun i : Fin 33 => dutyTok ER (kcell (c, i)) 0 false) ∗ dutyTok ER (barC c) 0 true)

/-- The launch element, as every device's share. -/
theorem fund_all : BI.own (ER (initOf allCells allToks)) ⊢ (|==> bigSep Finset.univ (G m ρ) : sProp 𝕄) := by
  have hT : bigSep allToks (fun x => (dutyTok ER x.1 x.2.1 x.2.2 : sProp 𝕄))
      = iprop((bigSep Finset.univ fun c : Dev nD => bigSep Finset.univ fun i : Fin 33 => dutyTok ER (kcell (c, i)) 0 false)
        ∗ bigSep Finset.univ fun c : Dev nD => dutyTok ER (barC c) 0 true) := by
    unfold allToks; rw [bigSep_union toks_disjoint]
    unfold firstToks secondToks
    rw [bigSep_map, bigSep_map, ← bigSep_allCells (fun g => dutyTok ER g 0 false)]; rfl
  iintro HX
  imod (Rounds.fund ER (Rd m ρ) allCells allToks) $$ HX with ⟨Hst, Hr, Hat, Htok⟩
  imodintro
  ihave Hst := (Entails.of_eq (bigSep_allCells fun g => roundState ER (Rd m ρ) g 0)) $$ Hst
  ihave Hat := (Entails.of_eq (bigSep_allCells fun g => atPos ER g 0 ∅ 0)) $$ Hat
  ihave Hr := (Entails.of_eq (bigSep_allCells fun g => reached ER g 0)) $$ Hr
  ihave Htok := (Entails.of_eq hT) $$ Htok
  icases Htok with ⟨H1, H2⟩
  unfold G; simp only [bigSep_sep']
  iframe

/-! ## The semaphores -/

/-- The transfers' semaphores, sending and receiving. -/
def osem (bjk : Bool × JK) : SemLoc sig := .dma (if bjk.1 then rS bjk.2.1 bjk.2.2 else sS bjk.2.1 bjk.2.2)
theorem ownSemFacts : Pipeline.OwnSemFacts cfg0.spec osem := by decide +kernel

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun jk : JK => semVal (sC jk.1 jk.2 c) 0) ∗ bigSep Finset.univ fun jk : JK => semVal (rC jk.1 jk.2 c) 0) := by
  unfold Pipeline.ownSems0
  rw [bigSep_univ_prod, bigSep_univ_eq_bigSepL [false, true] (by decide) (by decide)]; rfl
omit [FloatOps F] in
theorem unscopedSems0_eq (c : Dev nD) : (unscopedSems0 c : sProp 𝕄) = semVal (barC c) 0 := by
  unfold unscopedSems0; rw [bigSep_eq_bigSepL_of_eq [SemLoc.reg barS] (by decide) (by decide)]; rfl
omit [FloatOps F] in
/-- A device's counters, cell by cell. -/
theorem counters (c : Dev nD) :
    iprop(Pipeline.ownSems0 (Ix := Unit) (Name := ℕ) (U := UU) (Lvl := ℕ) (Val := Elt F) (τ := τ) osem c ∗ unscopedSems0 c)
      ⊢ (bigSep Finset.univ fun i : Fin 33 => semVal (kcell (c, i)) 0 : sProp 𝕄) := by
  rw [ownSems0_eq, unscopedSems0_eq, bigSep_cells (fun sm => semVal ((c : Thread nD τ), sm) 0)]
  iintro ⟨⟨HS, HV⟩, HB⟩
  iframe

/-- A device's share once its invariants are allocated. -/
def dealt (c : Dev nD) : sProp 𝕄 :=
  iprop((bigSep Finset.univ fun i : Fin 33 => iprop(∃ κ : ℕ, cellInv ER (Rd m ρ) κ (kcell (c, i))))
    ∗ (bigSep Finset.univ fun i : Fin 33 => atPos ER (kcell (c, i)) 0 ∅ 0) ∗ (bigSep Finset.univ fun i : Fin 33 => reached ER (kcell (c, i)) 0)
    ∗ (bigSep Finset.univ fun i : Fin 33 => dutyTok ER (kcell (c, i)) 0 false) ∗ dutyTok ER (barC c) 0 true)

theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> dealt m ρ c := by
  have hinv : iprop((bigSep Finset.univ fun i : Fin 33 => semVal (kcell (c, i)) 0) ∗ bigSep Finset.univ fun i : Fin 33 => roundState ER (Rd m ρ) (kcell (c, i)) 0)
      ⊢ (|={Set.univ}=> bigSep Finset.univ fun i : Fin 33 => iprop(∃ κ : ℕ, cellInv ER (Rd m ρ) κ (kcell (c, i))) : sProp 𝕄) := by
    rw [← bigSep_sep']
    exact (bigSep_mono fun i _ => (Rounds.body_intro ER (Rd m ρ) (kcell (c, i))).trans inv_alloc).trans (bigSep_fupd _ _)
  unfold G dealt
  iintro ⟨Hos, Hus, Hst, Hat, Hr, Htok, Htt⟩
  ihave Hv := (counters (F := F) c) $$ [Hos Hus]
  · iframe
  imod hinv $$ [Hv Hst] with Hinv
  · iframe
  imodintro
  iframe

/-! ## Dealing the tokens to their payers -/

/-- What stays with device `c`: its positions, and the tokens of the duties it pays. -/
def linear (c : Dev nD) : sProp 𝕄 :=
  iprop(atPos ER (barC c) 0 ∅ 0 ∗ dutyTok ER (barC (acrossA c)) 0 false ∗ dutyTok ER (barC (acrossB c)) 0 true
    ∗ (bigSep Finset.univ fun jk : JK => dutyTok ER (sC jk.1 jk.2 c) 0 false)
    ∗ (bigSep Finset.univ fun jk : JK => dutyTok ER (rC jk.1 jk.2 (peer jk.1 jk.2 c)) 0 false)
    ∗ (bigSep Finset.univ fun jk : JK => atPos ER (sC jk.1 jk.2 c) 0 ∅ 0) ∗ bigSep Finset.univ fun jk : JK => atPos ER (rC jk.1 jk.2 c) 0 ∅ 0)

/-- Each transfer's receiver, with the transfer: its own inverse. -/
def swapDev : Dev nD × JK ≃ Dev nD × JK :=
  Function.Involutive.toPerm (fun cj => (peer cj.2.1 cj.2.2 cj.1, cj.2)) fun cj => Prod.ext (peer_peer _ _ _) rfl
def swapA : Dev nD ≃ Dev nD := Function.Involutive.toPerm acrossA acrossA_acrossA
def swapB : Dev nD ≃ Dev nD := Function.Involutive.toPerm acrossB acrossB_acrossB

omit [FloatOps F] in
theorem tokens_dealt :
    iprop((bigSep Finset.univ fun c : Dev nD => bigSep Finset.univ fun i : Fin 33 => atPos ER (kcell (c, i)) 0 ∅ 0)
        ∗ (bigSep Finset.univ fun c : Dev nD => bigSep Finset.univ fun i : Fin 33 => dutyTok ER (kcell (c, i)) 0 false)
        ∗ bigSep Finset.univ fun c : Dev nD => dutyTok ER (barC c) 0 true)
      ⊢ (bigSep Finset.univ fun c : Dev nD => linear c : sProp 𝕄) := by
  have hr : (bigSep Finset.univ fun c : Dev nD => bigSep Finset.univ fun jk : JK => (dutyTok ER (rC jk.1 jk.2 c) 0 false : sProp 𝕄))
      = bigSep Finset.univ fun c : Dev nD => bigSep Finset.univ fun jk : JK => dutyTok ER (rC jk.1 jk.2 (peer jk.1 jk.2 c)) 0 false := by
    rw [← bigSep_univ_prod (fun cj : Dev nD × JK => (dutyTok ER (rC cj.2.1 cj.2.2 cj.1) 0 false : sProp 𝕄)), bigSep_univ_equiv swapDev, bigSep_univ_prod]; rfl
  have hA : (bigSep Finset.univ fun c : Dev nD => (dutyTok ER (barC c) 0 false : sProp 𝕄))
      = bigSep Finset.univ fun c : Dev nD => dutyTok ER (barC (acrossA c)) 0 false := bigSep_univ_equiv swapA _
  have hB : (bigSep Finset.univ fun c : Dev nD => (dutyTok ER (barC c) 0 true : sProp 𝕄))
      = bigSep Finset.univ fun c : Dev nD => dutyTok ER (barC (acrossB c)) 0 true := bigSep_univ_equiv swapB _
  unfold linear
  rw [bigSep_congr fun (c : Dev nD) _ => bigSep_cells (fun sm => (atPos ER ((c : Thread nD τ), sm) 0 ∅ 0 : sProp 𝕄)),
    bigSep_congr fun (c : Dev nD) _ => bigSep_cells (fun sm => (dutyTok ER ((c : Thread nD τ), sm) 0 false : sProp 𝕄))]
  simp only [bigSep_sep']
  rw [hr, hA, hB]
  iintro ⟨⟨P0, P1, P2⟩, ⟨D0, D1, D2⟩, D3⟩
  iframe

/-- What the global step makes of a device's share. -/
def G' (c : Dev nD) : sProp 𝕄 := iprop((∃ K, records m ρ K) ∗ linear c)

theorem share_all {Φ : Dev nD → sProp 𝕄} {R : sProp 𝕄} [BI.Persistent R] :
    iprop(R ∗ bigSep Finset.univ Φ) ⊢ bigSep Finset.univ fun c => iprop(R ∗ Φ c) := by
  rw [bigSep_sep']; exact sep_mono_left (BI.bigSep_of_persistent _ R)

theorem regroup : (bigSep Finset.univ fun c : Dev nD => dealt m ρ c) ⊢ bigSep Finset.univ (G' m ρ) := by
  unfold dealt
  rw [bigSep_sep', bigSep_sep', bigSep_sep', bigSep_sep', ← bigSep_univ_prod (fun ci : Dev nD × Fin 33 => iprop(∃ κ : ℕ, cellInv ER (Rd m ρ) κ (kcell ci))),
    ← bigSep_univ_prod (fun ci : Dev nD × Fin 33 => (reached ER (kcell ci) 0 : sProp 𝕄))]
  iintro ⟨HI, Hat, #HR, Ht1, Ht2⟩
  ihave HK := (BI.bigSep_exists_pi Finset.univ (fun (ci : Dev nD × Fin 33) (κ : ℕ) => (cellInv ER (Rd m ρ) κ (kcell ci) : sProp 𝕄))) $$ HI
  icases HK with ⟨%K, #HI⟩
  ihave HL := (tokens_dealt (F := F)) $$ [Hat Ht1 Ht2]
  · iframe
  ihave H := (share_all (R := iprop(∃ K, records m ρ K))) $$ [HL]
  · isplitr
    · iexists K; unfold records; isplitl; · iexact HI
      iexact HR
    iexact HL
  unfold G'
  iexact H

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (regroup m ρ))

/-! ## The credit at launch -/

theorem rC_eq {j k j' k' : Fin 4} {c c' : Dev nD} (h : rC j k c = rC j' k' c') : (j, k) = (j', k') ∧ c = c' := by
  have h1 : c = c' := congrArg (fun g : GSem nD τ sig => g.1.1) h
  have h2 : rIx j k = rIx j' k' := csem_injective (by rw [csem_rIx, csem_rIx]; exact congrArg Prod.snd h)
  exact ⟨rE.injective h2, h1⟩
theorem bar_ne_r {j k : Fin 4} {c c' : Dev nD} : barC c ≠ rC j k c' := fun h => by
  have : SemLoc.reg barS = SemLoc.dma (rS j k) := congrArg Prod.snd h
  cases this

/-- What device `d` owes a receive cell while the transfers `l` are to start. -/
theorem owedL_r (d c : Dev nD) (j k : Fin 4) : ∀ l : List JK, l.Nodup → owedL d l (rC j k c) () = if (j, k) ∈ l ∧ d = peer j k c then amt j else 0
  | [], _ => by rw [if_neg (fun h => absurd h.1 List.not_mem_nil)]; rfl
  | jk :: l, hl => by
    rw [owedL, Pi.add_apply, Finsupp.add_apply, owedL_r d c j k l (List.nodup_cons.mp hl).2, tallyAt_apply]
    by_cases h : (j, k) = jk ∧ d = peer j k c
    · obtain ⟨rfl, rfl⟩ := h
      rw [if_neg (fun h => (List.nodup_cons.mp hl).1 h.1), if_pos ⟨by rw [peer_peer], rfl⟩, if_pos ⟨List.mem_cons_self, rfl⟩, Nat.zero_add]
    · have hn : ¬ (rC j k c = rC jk.1 jk.2 (peer jk.1 jk.2 d) ∧ () = ()) := fun ⟨e, _⟩ => by
        obtain ⟨e1, e2⟩ := rC_eq e
        have e1 : (j, k) = jk := e1
        subst e1
        exact h ⟨rfl, by rw [e2, peer_peer]⟩
      rw [if_neg hn, Nat.add_zero]
      refine if_congr ⟨fun ⟨a, b⟩ => ⟨List.mem_cons_of_mem _ a, b⟩, fun ⟨a, b⟩ => ⟨?_, b⟩⟩ rfl rfl
      rcases List.mem_cons.mp a with a | a
      · exact absurd ⟨a, b⟩ h
      · exact a
theorem owedL_bar (d c : Dev nD) (l : List JK) : owedL d l (barC c) () = 0 := by
  by_contra h
  obtain ⟨jk, -, e⟩ := owedL_pos (Nat.pos_of_ne_zero h)
  exact bar_ne_r e

theorem owed_r (d c : Dev nD) (j k : Fin 4) : O₀ d (rC j k c) () = if d = peer j k c then amt j else 0 := by
  have hm : (j, k) ∈ order := by revert j k; decide
  unfold O₀ O₁
  rw [Pi.add_apply, Finsupp.add_apply, Pi.add_apply, Finsupp.add_apply, tallyAt_ne_cell (fun h => bar_ne_r h.symm),
    tallyAt_ne_cell (fun h => bar_ne_r h.symm), Finsupp.zero_apply, Nat.add_zero, Nat.add_zero, owedL_r d c j k order (by decide)]
  exact if_congr ⟨fun h => h.2, fun h => ⟨hm, h⟩⟩ rfl rfl
theorem unit_bar (d c e : Dev nD) (sw : Dev nD → Dev nD) (hsw : ∀ a, sw (sw a) = a) :
    (tallyAt (barC (sw d)) () 1 : CellTallies nD τ sig Unit) (barC c) () = if d = sw c then 1 else 0 := by
  rw [tallyAt_apply]
  refine if_congr ⟨fun h => ?_, fun h => ⟨by rw [h, hsw], rfl⟩⟩ rfl rfl
  rw [barC_injective h.1, hsw]
theorem owed_bar (d c : Dev nD) : O₀ d (barC c) () = (if d = acrossB c then 1 else 0) + (if d = acrossA c then 1 else 0) := by
  unfold O₀ O₁
  rw [Pi.add_apply, Finsupp.add_apply, Pi.add_apply, Finsupp.add_apply, owedL_bar, Nat.zero_add, unit_bar d c c acrossB acrossB_acrossB,
    unit_bar d c c acrossA acrossA_acrossA]

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (acrossB c) fun _ => 1, Finset.sum_ite_eq' Finset.univ (acrossA c) fun _ => 1, if_pos (Finset.mem_univ _), if_pos (Finset.mem_univ _)]
theorem launch_r (j k : Fin 4) (c : Dev nD) :
    tallyOn (rC j k c) (launchCredit (Pipeline.owing O₀) 0 (rC j k c)) = (tallyAt (rC j k c) () (amt j) : CellTallies nD τ sig Unit) := by
  unfold tallyAt; refine congrArg _ (Finsupp.ext fun u => ?_); cases u
  rw [Pipeline.launchCredit_owing, Finsupp.single_eq_same, Finset.sum_congr rfl fun d _ => owed_r d c j k,
    Finset.sum_ite_eq' Finset.univ (peer j k c) fun _ => amt j, if_pos (Finset.mem_univ _)]

def rS' : JK ↪ SemLoc sig := ⟨fun jk => .dma (rS jk.1 jk.2), by decide +kernel⟩

omit [FloatOps F] in
/-- A device's credit at launch: two units at its barrier, and one landing at every receive cell. -/
theorem creds (c : Dev nD) :
    (Pipeline.launchCred O₀ c : sProp 𝕄) ⊢ iprop(cred (tallyAt (barC c) () 2) ∗ bigSep Finset.univ fun jk : JK => cred (tallyAt (rC jk.1 jk.2 c) () (amt jk.1))) := by
  have hs : Finset.univ.map rS' ⊆ (Finset.univ.erase (SemLoc.reg barS) : Finset (SemLoc sig)) := fun x hx => by
    obtain ⟨jk, -, rfl⟩ := Finset.mem_map.mp hx
    exact Finset.mem_erase.mpr ⟨fun h => (by cases h), Finset.mem_univ _⟩
  unfold Pipeline.launchCred
  rw [bigSep_univ_at _ (SemLoc.reg barS), launch_bar]
  refine sep_mono_right ?_
  rw [bigSep_congr fun (jk : JK) _ => congrArg cred (launch_r jk.1 jk.2 c).symm]
  refine (bigSep_subset hs).trans ?_
  rw [bigSep_map]
  exact BI.Entails.refl _

end Cert.KernelIdeal.Exchange
-- ==== Proof.Ideal.Point.lean ====
/-
The kernel's one grid point: what it starts from and ends with, and that the body takes the one to the other.
-/
module

public import proofs.«01_k».proof.Proof.Ideal.Deal
public import Idealize.ShloMosaic.Lib.Pipeline.Value

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What a device starts from, its landing buffers apart. -/
def start (c : Dev nD) : sProp 𝕄 :=
  iprop((∃ K, facts m ρ K) ∗ beforeBar (F := F) c ∗ bigSep Finset.univ fun k : Fin 4 => toks (F := F) k c)
/-- The landing buffers, whatever they hold. -/
def landing (c : Dev nD) : sProp 𝕄 :=
  iprop((∃ f, ((c : Thread nD τ).loc cc0_scratch0) ↦{fullShare} f) ∗ (∃ f, ((c : Thread nD τ).loc cc0_scratch1) ↦{fullShare} f))
/-- Before the point, and after it. -/
def Φ₀ (c : Dev nD) : sProp 𝕄 := iprop(start m ρ c ∗ landing (F := F) c)
def Φ₁ (c : Dev nD) : sProp 𝕄 :=
  iprop(semVal (barC c) 0 ∗ (bigSep Finset.univ fun k : Fin 4 => fins (F := F) k c) ∗ landing (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => RES m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

omit [FloatOps F] in
theorem owns_whole_eq (c : Dev nD) (b : Ref sig .tc) (V : b.ty.Contents (Elt F)) :
    (owns (Ix := Unit) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

/-- A staging buffer holding `V`. -/
abbrev stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

def pointPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d)) ∗ (∃ d, stg c cc0_stg1_0 ((dats m ρ 0 c).before (1 : Fin 2) t0_0 d)))
def pointPost (c : Dev nD) : sProp 𝕄 :=
  iprop(Φ₁ (F := F) c ∗ (dats m ρ 0 c).owesAt () t0_0.succ ∗ stg c cc0_stg0_0 (X m ρ c) ∗ stg c cc0_stg1_0 (RES m ρ))

/-- The point, in the body's own terms. -/
theorem point_run (c : Dev nD) : pointPre m ρ c ⊢ Runs c (onArgs (cc0_body (F := F))) (fun _ => pointPost m ρ c) := by
  unfold pointPre Φ₀ start landing Dat.owesAt Pipeline.owesWithin
  rw [show (dats m ρ 0 c).owed t0_0.castSucc = O₀ c from rfl]
  iintro ⟨⟨⟨⟨%K, HF⟩, HB, HT⟩, ⟨%fa, Ha⟩, %fb, Hb⟩, ⟨%W, -, HO⟩, ⟨%d0, %g0, %hg0, Hx⟩, ⟨%d1, %g1, %hg1, Hg⟩⟩
  have hx : g0 = X m ρ c := by rw [hg0]; unfold Dat.before; rw [if_pos (fetch_0 t0_0)]; rfl
  subst hx
  ihave HR := (body_run m ρ K c g1 fa fb) $$ [HF HB HT Ha Hb HO Hx Hg]
  · unfold bodyStart
    isplitl [HF]; · iexact HF
    isplitl [HO]; · iexists W; iexact HO
    iframe
  iapply (wp_wand _ _ _) $$ HR
  iintro %_ HE
  unfold bodyEnd pointPost Φ₁ landing Dat.owesAt Pipeline.owesWithin
  rw [show (dats m ρ 0 c).owed t0_0.succ = 0 from rfl]
  icases HE with ⟨⟨%W', HO⟩, HzB, HF, HX, HR, HA, HB⟩
  isplitl [HzB HF HA HB]; · iframe
  isplitl [HO]
  · iexists W'
    isplitr; · ipureintro; exact fun _ _ => Or.inl trivial
    iexact HO
  isplitl [HX]
  · iexists _; isplitr; · (ipureintro; rfl)
    iexact HX
  iexists _; isplitr; · (ipureintro; rfl)
  iexact HR

set_option maxRecDepth 40000 in
/-- The library's obligation on the body of device `c`. -/
theorem body_obligation (c : Dev nD) : BodyObligation (dats (F := F) m ρ 0 c) (defs₀ (F := F)) 𝒱₀ () Set.univ := fun t => by
  rw [fin_N0 t, bigSep_W0, bigSep_W0]
  simp only [owns_whole_eq]
  show pointPre m ρ c ⊢ Runs c (cc0_body (F := F) (Memref.whole cc0_stg0_0) (Memref.isWhole_whole _) (Memref.whole cc0_stg1_0) (Memref.isWhole_whole _)
    (Memref.whole cc0_scratch0) (Memref.isWhole_whole _) (Memref.whole cc0_scratch1) (Memref.isWhole_whole _) cc0_scratch2 cc0_scratch3) (fun _ => pointPost m ρ c)
  exact point_run m ρ c

end Cert.KernelIdeal.Exchange
-- ==== Proof.Ideal.Launch.lean ====
/-
The run: from any memory with zero counters, the program ends with every device's result, the arguments unchanged and
every counter at zero.
-/
module

public import proofs.«01_k».proof.Proof.Ideal.Point
public import Idealize.ShloMosaic.Lib.Pipeline.Value

public import Idealize.ShloMosaic.Lib.Pipeline.CollectiveSegs

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have hT : (bigSep Finset.univ fun k : Fin 4 => toks (F := F) k c)
      = iprop((bigSep Finset.univ fun jk : JK => dutyTok ER (sC jk.1 jk.2 c) 0 false)
        ∗ (bigSep Finset.univ fun jk : JK => dutyTok ER (rC jk.1 jk.2 (peer jk.1 jk.2 c)) 0 false)
        ∗ (bigSep Finset.univ fun jk : JK => atPos ER (sC jk.1 jk.2 c) 0 ∅ 0) ∗ (bigSep Finset.univ fun jk : JK => atPos ER (rC jk.1 jk.2 c) 0 ∅ 0)
        ∗ bigSep Finset.univ fun jk : JK => cred (tallyAt (rC jk.1 jk.2 c) () (amt jk.1))) := by
    unfold toks
    rw [← bigSep_JK (fun j k => tok (F := F) j k c)]
    unfold tok
    rw [bigSep_sep', bigSep_sep', bigSep_sep', bigSep_sep']
  unfold start G' linear beforeBar
  rw [hT]
  iintro ⟨-, #Hlev, Hcr, -, ⟨%K, HR⟩, HaB, HtA, HtB, H1, H2, H3, H4⟩
  ihave Hc := (creds (F := F) c) $$ Hcr
  icases Hc with ⟨HcB, HcR⟩
  imodintro
  isplitl
  · isplitl [HR]
    · iexists K; unfold facts; isplitl [HR]; · iexact HR
      iexact Hlev
    iframe
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ landing
  iintro ⟨Hs, -, Hr⟩
  iframe

theorem phi1_exit (c : Dev nD) :
    (dats m ρ 0 c).Φ (Fin.last cfg0.N) ⊢ iprop(unscopedSems0 c ∗ Pipeline.ownSems0 osem c ∗ Pipeline.scopedRest cfg0.spec c) := by
  have hF : (bigSep Finset.univ fun k : Fin 4 => fins (F := F) k c)
      = iprop((bigSep Finset.univ fun jk : JK => semVal (sC jk.1 jk.2 c) 0) ∗ bigSep Finset.univ fun jk : JK => semVal (rC jk.1 jk.2 c) 0) := by
    unfold fins
    rw [← bigSep_JK (fun j k => fin (F := F) j k c)]
    unfold fin
    rw [bigSep_sep']
  rw [show (dats m ρ 0 c).Φ (Fin.last cfg0.N) = Φ₁ c from rfl, scopedRest0_eq, ownSems0_eq, unscopedSems0_eq]
  unfold Φ₁ landing
  rw [hF]

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a window's array holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every execution ends, with each window's array as computed
    and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array ends as it began. -/
theorem finalA_arg (c : Dev nD) : finalA m ρ c (0 : Fin 2) = (s₀ m ρ).mem (win0_0.arr.view.loc (c : Thread nD τ)) :=
  (dats (F := F) m ρ 0 c).arrAt_in (0 : Fin 2) rfl _

end Cert.KernelIdeal.Exchange
-- ==== Proof.Ideal.Value.lean ====
/-
The run in the claims' words: every device's result is the sum `RES` of the blocks, and its argument is unchanged.
-/
module

public import proofs.«01_k».proof.Proof.Ideal.Launch

@[expose] public section

noncomputable section

namespace Cert.KernelIdeal.Exchange

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The block of the input's window sits at every element's own index, -/
theorem emb_in (t : Fin cfg0.N) (i : S512x512.Idx) : (win0_0.blk t).view.emb i = i :=
  funext fun a => Fin.ext (by
    show 0 * S512x512.size a + 1 * (i a).val = (i a).val
    omega)

/-- and so does the block of the output's. -/
theorem emb_out (t : Fin cfg0.N) (i : S512x512.Idx) : (win0_1.blk t).view.emb i = i :=
  funext fun a => Fin.ext (by
    show 0 * S512x512.size a + 1 * (i a).val = (i a).val
    omega)

/-- A device's block of the input is its whole argument array. -/
theorem X_eq (c : Dev nD) : X m ρ c = m ((c : Thread nD τ).loc main_arg0) :=
  funext fun i => congrArg (m ((c : Thread nD τ).loc main_arg0)) (emb_in (0 : Fin 1) i)

/-- What the output's window writes back is the whole result. -/
theorem flushed_out (c : Dev nD) (t : Fin cfg0.N) :
    (dats m ρ 0 c).flushed (1 : Fin 2) t = ((cfg0.win (1 : Fin 2)).blk t).view.read (Elt F) (RES m ρ) := by
  obtain rfl := fin_N0 t
  have ha : (dats m ρ 0 c).after (1 : Fin 2) t0_0 = RES m ρ := rfl
  unfold Pipeline.Dat.flushed
  rw [ha]
  exact funext fun i => (congrArg (RES m ρ) (emb_out t0_0 i)).symm

/-- Every element of the result is written back. -/
theorem cover_out (i : S512x512.Idx) :
    ∃ t : Fin cfg0.N, (cfg0.win (1 : Fin 2)).flush t = true ∧ i ∈ ((cfg0.win (1 : Fin 2)).blk t).view.set :=
  ⟨t0_0, flush0_1 _, Finset.mem_map.mpr ⟨i, Finset.mem_univ _, emb_out t0_0 i⟩⟩

/-- The result's array ends holding the sum. -/
theorem finalA_out (c : Dev nD) : finalA m ρ c (1 : Fin 2) = RES m ρ :=
  (dats m ρ 0 c).arrAt_eq_of_cover (1 : Fin 2) (RES m ρ) (fun t _ => flushed_out m ρ c t) cover_out

/-- Every execution ends with the sum in each device's result, its argument unchanged, and every counter at zero. -/
theorem run : θ_run defs (onTc (τ := τ) (main (F := F))) (⟨m, fun _ => 0, ρ⟩ : MemSt nD τ sig (Elt F)) (fun r =>
    (∀ c : Dev nD, r.2.mem ((c.tc : Thread nD τ).loc main_v1) = RES m ρ
      ∧ r.2.mem ((c.tc : Thread nD τ).loc main_arg0) = m ((c.tc : Thread nD τ).loc main_arg0))
    ∧ r.2.sem = fun _ => 0) :=
  (θ_run defs _ _).mono (fun _ h => ⟨fun c => ⟨(h.1 c (1 : Fin 2)).trans (finalA_out m ρ c), (h.1 c (0 : Fin 2)).trans (finalA_arg m ρ c)⟩, h.2⟩)
    (run_main m ρ)

end Cert.KernelIdeal.Exchange
-- ==== Proof.Equation.lean ====
/-
The sum the devices compute is the reference's: at the ideal instance, addition of the four blocks in any order.
-/
module

public import proofs.«01_k».proof.Proof.Ideal.Value
public import proofs.«01_k».proof.Proof.Gen.ReferenceIdeal.Run
public import Idealize.ShloMosaic.Lib.Pointwise.Reduce
public import Idealize.ShloMosaic.Lib.IdealHost
public import Idealize.ShloMosaic.Lib.Layout
public import Idealize.ShloMosaic.Lib.ValueIdxCore

@[expose] public section

noncomputable section

namespace Cert.Equation

open Idealize.ShloMosaic
open Idealize.ShloMosaic.TcCoe
open Cert.KernelIdeal Cert.KernelIdeal.Exchange

variable (m : (ℓ : Loc nD τ sig) → Buf (Elt Ideal) ℓ) (ρ : Dev nD → PrngReg)

/-- A device, its near partner, its far partner and the far partner's near partner are the four devices. -/
theorem sum_partners (f : Dev nD → EReal) (k : Fin 4) (c : Dev nD) :
    (f c + f (near k c)) + (f (far k c) + f (near k (far k c))) = ∑ d : Dev nD, f d := by
  have hinj : ∀ k : Fin 4, ∀ c : Dev nD, [c, near k c, far k c, near k (far k c)].Perm (List.finRange 4) := by decide
  have h := ((hinj k c).map f).sum_eq
  rw [Fin.sum_univ_def]
  refine Eq.trans ?_ h
  simp only [List.map_cons, List.map_nil, List.sum_cons, List.sum_nil, add_zero, add_assoc]

/-- An element of the result is the sum of the four blocks' elements there. -/
theorem RES_sum (i : S512x512.Idx) : RES m ρ i = ∑ d : Dev nD, (X m ρ d i : EReal) :=
  sum_partners (fun d => X m ρ d i) (colQ i) (owner (colQ i) (rowQ i))

/-- The pattern of zero is the extended real zero. -/
theorem zero_f32 : Ideal.ofBits .f32 0x00000000#32 = 0 := by simp [Ideal.ofBits, Ideal.ieee]

/-- Row `r` of slab `d` of the reshaped array is row `r` of block `d` of the array. -/
theorem slab (v : Cert.ReferenceIdeal.S2048x512.Idx → EReal)
    (h : Cert.ReferenceIdeal.S2048x512.ShapeCasts Cert.ReferenceIdeal.S4x512x512) (d : Fin 4) (a b : Fin 512) :
    shapeCast Cert.ReferenceIdeal.S4x512x512 v h (ix3 d a b)
      = (Layout.block ⟨2, ![512, 512]⟩ ⟨2, ![2048, 512]⟩ 0 4 d v : S512x512.Idx → EReal) (ix2 a b) := by
  rw [Layout.block_apply]
  refine shapeCast_apply v h _ _ ?_
  rw [Shape.rowMajor_val_two, Shape.rowMajor_val_three]
  show (d.val * 512 + a.val) * 512 + b.val = (d.val * 512 + a.val) * 512 + b.val
  rfl

/-- An element of the reference's result is the sum of the four blocks of its argument there. -/
theorem reference_sum (v : FVec Ideal Cert.ReferenceIdeal.S2048x512 .f32)
    (h : Cert.ReferenceIdeal.S2048x512.ShapeCasts Cert.ReferenceIdeal.S4x512x512)
    (hr : Cert.ReferenceIdeal.S4x512x512.ReducesTo [0] S512x512) (hu : 0 < S_.numel) (i : S512x512.Idx) :
    Host.reduceAdd (shapeCast Cert.ReferenceIdeal.S4x512x512 v h) (constant (F := Ideal) S_ .f32 0x00000000#32) hr hu i
      = ∑ d : Fin 4, (Layout.block ⟨2, ![512, 512]⟩ ⟨2, ![2048, 512]⟩ 0 4 d v : S512x512.Idx → EReal) i := by
  rw [Host.reduceAdd_apply, Ideal.hostReduceAdd_def, Ideal.hostReduceAdd_r3_a0]
  refine (congrArg (· + _) zero_f32).trans ((zero_add _).trans (Finset.sum_congr rfl fun d _ => ?_))
  refine (slab v h d _ _).trans (congrArg _ (funext fun a => Fin.ext ?_))
  match a with
  | ⟨0, _⟩ => rfl
  | ⟨1, _⟩ => rfl

/-- When each device holds its block of the reference's argument, the devices' result is the reference's. -/
theorem RES_eq (v : FVec Ideal Cert.ReferenceIdeal.S2048x512 .f32)
    (hm : ∀ c : Dev nD, m ((c.tc : Thread nD τ).loc main_arg0) = Layout.block ⟨2, ![512, 512]⟩ ⟨2, ![2048, 512]⟩ 0 4 c v)
    (h : Cert.ReferenceIdeal.S2048x512.ShapeCasts Cert.ReferenceIdeal.S4x512x512)
    (hr : Cert.ReferenceIdeal.S4x512x512.ReducesTo [0] S512x512) (hu : 0 < S_.numel) :
    RES m ρ = Host.reduceAdd (shapeCast Cert.ReferenceIdeal.S4x512x512 v h) (constant (F := Ideal) S_ .f32 0x00000000#32) hr hu := by
  funext i
  rw [RES_sum, reference_sum]
  exact Finset.sum_congr rfl fun d _ => congrFun ((X_eq m ρ d).trans (hm d)) i

end Cert.Equation
-- ==== Proof.lean ====
/-
The proof of every claim: the three frames, and the equality of the kernel's result with the reference's.
-/
module

public import proofs.«01_k».proof.Defs
public import proofs.«01_k».proof.Proof.Run.Value
public import proofs.«01_k».proof.Proof.Equation

@[expose] public section

noncomputable section

namespace Cert.Proof

open Idealize.ShloMosaic Idealize.SL.Sem Cert.Kernel

/-- The kernel leaves its argument unchanged and every semaphore counter at zero. -/
theorem quiescent_kernel : Cert.quiescent_Kernel (hKernel := Cert.Kernel.Gen.facts) := fun m g _ =>
  (θ_run Cert.Kernel.defs _ _).mono (fun _ h => ⟨fun c => (h.1 c).2, h.2⟩) (Cert.Kernel.Exchange.run m g)

/-- So does the kernel read at the ideal instance, -/
theorem quiescent_kernelIdeal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Exchange.run m g)

/-- and the reference, which has no semaphore. -/
theorem quiescent_referenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩)
    (Cert.ReferenceIdeal.Value.run m g)

/-- Over the extended reals, every device's result is the reference's. -/
theorem algebraic : Cert.algebraic_KernelIdeal_ReferenceIdeal (hKernelIdeal := Cert.KernelIdeal.Gen.facts)
    (hReferenceIdeal := Cert.ReferenceIdeal.Gen.facts) := fun m g m' g' _ hm =>
  ⟨_, (θ_run Cert.KernelIdeal.defs _ _).mono
      (fun _ h c => ⟨(h.1 c).1.trans (Cert.Equation.RES_eq m g _ hm _ _ _), (h.1 c).2⟩) (Cert.KernelIdeal.Exchange.run m g),
    (θ_run Cert.ReferenceIdeal.defs _ _).mono (fun _ h => h 0) (Cert.ReferenceIdeal.Value.run m' g')⟩

/-- Every claim of the certificate. -/
theorem claim : Cert.Claim := ⟨Cert.Kernel.Gen.facts, Cert.KernelIdeal.Gen.facts, Cert.ReferenceIdeal.Gen.facts,
  quiescent_kernel, quiescent_kernelIdeal, quiescent_referenceIdeal, trivial, algebraic⟩

end Cert.Proof

end
